-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_tie [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_no_tie [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_tie m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_no_tie [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_tie m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_KernelIdeal (hKernelIdeal := hKernelIdeal)
    ∧ quiescent_KernelIdeal_pre_no_tie (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal_pre_no_tie (hKernelIdeal := hKernelIdeal) (hReferenceIdeal := hReferenceIdeal) (hPre_no_tie := hPre_no_tie)
-- ==== Pre_no_tie.lean ====
abbrev S8x21x512x512 : Shape := ⟨4, ![8, 21, 512, 512]⟩
abbrev S8x512x512 : Shape := ⟨3, ![8, 512, 512]⟩
abbrev S_ : Shape := ⟨0, ![]⟩
abbrev S8x1x512x512 : Shape := ⟨4, ![8, 1, 512, 512]⟩

class Facts : Prop where
  reducesTo_S8x21x512x512_S8x512x512_d1 : S8x21x512x512.ReducesTo [1] S8x512x512
  h_S_ : 0 < S_.numel
  bcast_S8x512x512_S8x1x512x512_0_2_3 : S8x512x512.BroadcastsInDim S8x1x512x512 (![0, 2, 3] : Fin 3 → Fin S8x1x512x512.rank)
  bcast_S8x1x512x512_S8x21x512x512_0_1_2_3 : S8x1x512x512.BroadcastsInDim S8x21x512x512 (![0, 1, 2, 3] : Fin 4 → Fin S8x21x512x512.rank)
  natLt_1_32 : 1 < 32
  bcast_S_S8x512x512 : S_.BroadcastsInDim S8x512x512 (![] : Fin 0 → Fin S8x512x512.rank)

variable [Facts]

def fn {F : FTy → Type} [FloatOps F] (main_arg0 : FVec F S8x21x512x512 .f32) (main_arg1 : IVec S8x512x512 32) : IVec S8x512x512 1 :=
  let main_cst : FVec F S_ .f32 := constant S_ .f32 0xFF800000#32
  let main_v0 : FVec F S8x512x512 .f32 := (fun x v => Host.reduce FloatOps.maximumf x v reducesTo_S8x21x512x512_S8x512x512_d1 h_S_) main_arg0 main_cst
  let main_v1 : FVec F S8x1x512x512 .f32 := broadcastInDim S8x1x512x512 ![0, 2, 3] bcast_S8x512x512_S8x1x512x512_0_2_3 main_v0
  let main_v2 : FVec F S8x21x512x512 .f32 := broadcastInDim S8x21x512x512 ![0, 1, 2, 3] bcast_S8x1x512x512_S8x21x512x512_0_1_2_3 main_v1
  let main_v3 : IVec S8x21x512x512 1 := cmpf .oeq main_arg0 main_v2
  let main_v4 : IVec S8x21x512x512 32 := (extui 32 · natLt_1_32) main_v3
  let main_c : IVec S_ 32 := constantI S_ 32 0#32
  let main_v5 : IVec S8x512x512 32 := (fun x v => Host.reduce IntOp.addi x v reducesTo_S8x21x512x512_S8x512x512_d1 h_S_) main_v4 main_c
  let main_c_0 : IVec S_ 32 := constantI S_ 32 1#32
  let main_v6 : IVec S8x512x512 32 := broadcastInDim S8x512x512 ![] bcast_S_S8x512x512 main_c_0
  let main_v7 : IVec S8x512x512 1 := cmpi .eq main_v5 main_v6
  let main_cst_1 : FVec F S_ .f32 := constant S_ .f32 0x7F800000#32
  let main_v8 : FVec F S8x512x512 .f32 := broadcastInDim S8x512x512 ![] bcast_S_S8x512x512 main_cst_1
  let main_v9 : IVec S8x512x512 1 := cmpf .olt main_v0 main_v8
  let main_v10 : IVec S8x512x512 1 := andi main_v7 main_v9
  let main_c_2 : IVec S_ 32 := constantI S_ 32 0#32
  let main_v11 : IVec S8x512x512 32 := broadcastInDim S8x512x512 ![] bcast_S_S8x512x512 main_c_2
  let main_v12 : IVec S8x512x512 1 := cmpi .sge main_arg1 main_v11
  let main_v13 : IVec S8x512x512 1 := andi main_v10 main_v12
  main_v13
-- ==== Kernel.lean ====
abbrev S8x21x512x512 : Shape := ⟨4, ![8, 21, 512, 512]⟩
abbrev S8x512x512 : Shape := ⟨3, ![8, 512, 512]⟩
abbrev S8x128 : Shape := ⟨2, ![8, 128]⟩
abbrev S1x21x512x512 : Shape := ⟨4, ![1, 21, 512, 512]⟩
abbrev S1x512x512 : Shape := ⟨3, ![1, 512, 512]⟩
abbrev S21x8x512 : Shape := ⟨3, ![21, 8, 512]⟩
abbrev S1x16x512 : Shape := ⟨3, ![1, 16, 512]⟩
abbrev S16x512 : Shape := ⟨2, ![16, 512]⟩
abbrev S1x1x16x512 : Shape := ⟨4, ![1, 1, 16, 512]⟩
abbrev S1x8x512 : Shape := ⟨3, ![1, 8, 512]⟩
abbrev S8x512 : Shape := ⟨2, ![8, 512]⟩
abbrev S21 : Shape := ⟨1, ![21]⟩
abbrev S1x21 : Shape := ⟨2, ![1, 21]⟩
abbrev S1 : Shape := ⟨1, ![1]⟩
abbrev S1x1 : Shape := ⟨2, ![1, 1]⟩
abbrev S_ : Shape := ⟨0, ![]⟩

abbrev nBuf : Space → Nat
  | .hbm => 5
  | .vmem => 7
  | .smem => 0
  | _ => 0

abbrev bufTy : (tb : Table) → Fin (tcTables nBuf tb) → BufTy
  | .hbm, ⟨0, _⟩ => ⟨S8x21x512x512, .f32⟩
  | .hbm, ⟨1, _⟩ => ⟨S8x512x512, .i32⟩
  | .hbm, ⟨2, _⟩ => ⟨S8x128, .f32⟩
  | .hbm, ⟨3, _⟩ => ⟨S1x1, .f32⟩
  | .hbm, ⟨4, _⟩ => ⟨S_, .f32⟩
  | .local _ .vmem, ⟨0, _⟩ => ⟨S1x21x512x512, .f32⟩
  | .local _ .vmem, ⟨1, _⟩ => ⟨S1x21x512x512, .f32⟩
  | .local _ .vmem, ⟨2, _⟩ => ⟨S1x512x512, .i32⟩
  | .local _ .vmem, ⟨3, _⟩ => ⟨S1x512x512, .i32⟩
  | .local _ .vmem, ⟨4, _⟩ => ⟨S8x128, .f32⟩
  | .local _ .vmem, ⟨5, _⟩ => ⟨S21x8x512, .f32⟩
  | .local _ .vmem, ⟨6, _⟩ => ⟨S21x8x512, .f32⟩
  | _, _ => ⟨S8x21x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32_16825 : BitVec 32 := 7#32
  let v22211 : BitVec 1 := Scalar.cmpi .eq arg0 c7_i32_16825
  let v22212 : BitVec 32 := Scalar.extui v22211
  let c0_i32_16826 : BitVec 32 := 0#32
  let v22213 : BitVec 1 := Scalar.cmpi .ne v22212 c0_i32_16826
  v22213

def cc0_transform_0 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, v26.toNat, c0_i32_12.toNat]

def cc0_transform_1 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x21x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S8x21x512x512 : Shape := ⟨4, ![8, 21, 512, 512]⟩
abbrev S8x512x512 : Shape := ⟨3, ![8, 512, 512]⟩
abbrev S_ : Shape := ⟨0, ![]⟩
abbrev S8x1x512x512 : Shape := ⟨4, ![8, 1, 512, 512]⟩
abbrev S2097152 : Shape := ⟨1, ![2097152]⟩
abbrev S21 : Shape := ⟨1, ![21]⟩
abbrev S2097152x1 : Shape := ⟨2, ![2097152, 1]⟩
abbrev S22 : Shape := ⟨1, ![22]⟩

abbrev nBuf : Space → Nat
  | .hbm => 95
  | .vmem => 0
  | .smem => 0
  | _ => 0

abbrev bufTy : (tb : Table) → Fin (tcTables nBuf tb) → BufTy
  | .hbm, ⟨0, _⟩ => ⟨S8x21x512x512, .f32⟩
  | .hbm, ⟨1, _⟩ => ⟨S8x512x512, .i32⟩
  | .hbm, ⟨2, _⟩ => ⟨S_, .f32⟩
  | .hbm, ⟨3, _⟩ => ⟨S8x512x512, .f32⟩
  | .hbm, ⟨4, _⟩ => ⟨S_, .f32⟩
  | .hbm, ⟨5, _⟩ => ⟨S8x512x512, .f32⟩
  | .hbm, ⟨6, _⟩ => ⟨S8x512x512, .f32⟩
  | .hbm, ⟨7, _⟩ => ⟨S8x1x512x512, .f32⟩
  | .hbm, ⟨8, _⟩ => ⟨S8x21x512x512, .f32⟩
  | .hbm, ⟨9, _⟩ => ⟨S8x21x512x512, .f32⟩
  | .hbm, ⟨10, _⟩ => ⟨S8x21x512x512, .f32⟩
  | .hbm, ⟨11, _⟩ => ⟨S_, .f32⟩
  | .hbm, ⟨12, _⟩ => ⟨S8x512x512, .f32⟩
  | .hbm, ⟨13, _⟩ => ⟨S8x1x512x512, .f32⟩
  | .hbm, ⟨14, _⟩ => ⟨S8x21x512x512, .f32⟩
  | .hbm, ⟨15, _⟩ => ⟨S8x21x512x512, .f32⟩
  | .hbm, ⟨16, _⟩ => ⟨S8x21x512x512, .i32⟩
  | .hbm, ⟨17, _⟩ => ⟨S_, .f32⟩
  | .hbm, ⟨18, _⟩ => ⟨S_, .i32⟩
  | .hbm, ⟨19, _⟩ => ⟨S8x512x512, .f32⟩
  | .hbm, ⟨20, _⟩ => ⟨S8x512x512, .i32⟩
  | .hbm, ⟨21, _⟩ => ⟨S2097152, .i32⟩
  | .hbm, ⟨22, _⟩ => ⟨S2097152, .i32⟩
  | .hbm, ⟨23, _⟩ => ⟨S_, .i32⟩
  | .hbm, ⟨24, _⟩ => ⟨S21, .i32⟩
  | .hbm, ⟨25, _⟩ => ⟨S_, .i32⟩
  | .hbm, ⟨26, _⟩ => ⟨S_, .i32⟩
  | .hbm, ⟨27, _⟩ => ⟨S2097152, .i32⟩
  | .hbm, ⟨28, _⟩ => ⟨S2097152, .i32⟩
  | .hbm, ⟨29, _⟩ => ⟨S_, .i32⟩
  | .hbm, ⟨30, _⟩ => ⟨S2097152, .i32⟩
  | .hbm, ⟨31, _⟩ => ⟨S2097152, .i1⟩
  | .hbm, ⟨32, _⟩ => ⟨S_, .i32⟩
  | .hbm, ⟨33, _⟩ => ⟨S2097152, .i32⟩
  | .hbm, ⟨34, _⟩ => ⟨S2097152, .i32⟩
  | .hbm, ⟨35, _⟩ => ⟨S2097152, .i32⟩
  | .hbm, ⟨36, _⟩ => ⟨S2097152x1, .i32⟩
  | .hbm, ⟨37, _⟩ => ⟨S_, .i32⟩
  | .hbm, ⟨38, _⟩ => ⟨S2097152, .i32⟩
  | .hbm, ⟨39, _⟩ => ⟨S21, .i32⟩
  | .hbm, ⟨40, _⟩ => ⟨S_, .i32⟩
  | .hbm, ⟨41, _⟩ => ⟨S21, .i32⟩
  | .hbm, ⟨42, _⟩ => ⟨S_, .i32⟩
  | .hbm, ⟨43, _⟩ => ⟨S_, .i32⟩
  | .hbm, ⟨44, _⟩ => ⟨S2097152, .i32⟩
  | .hbm, ⟨45, _⟩ => ⟨S2097152, .i32⟩
  | .hbm, ⟨46, _⟩ => ⟨S_, .i32⟩
  | .hbm, ⟨47, _⟩ => ⟨S2097152, .i32⟩
  | .hbm, ⟨48, _⟩ => ⟨S2097152, .i1⟩
  | .hbm, ⟨49, _⟩ => ⟨S_, .i32⟩
  | .hbm, ⟨50, _⟩ => ⟨S2097152, .i32⟩
  | .hbm, ⟨51, _⟩ => ⟨S2097152, .i32⟩
  | .hbm, ⟨52, _⟩ => ⟨S2097152, .i32⟩
  | .hbm, ⟨53, _⟩ => ⟨S2097152x1, .i32⟩
  | .hbm, ⟨54, _⟩ => ⟨S_, .i32⟩
  | .hbm, ⟨55, _⟩ => ⟨S2097152, .i32⟩
  | .hbm, ⟨56, _⟩ => ⟨S21, .i32⟩
  | .hbm, ⟨57, _⟩ => ⟨S2097152, .i1⟩
  | .hbm, ⟨58, _⟩ => ⟨S_, .i32⟩
  | .hbm, ⟨59, _⟩ => ⟨S_, .i32⟩
  | .hbm, ⟨60, _⟩ => ⟨S2097152, .i32⟩
  | .hbm, ⟨61, _⟩ => ⟨S2097152, .i32⟩
  | .hbm, ⟨62, _⟩ => ⟨S_, .i32⟩
  | .hbm, ⟨63, _⟩ => ⟨S22, .i32⟩
  | .hbm, ⟨64, _⟩ => ⟨S_, .i32⟩
  | .hbm, ⟨65, _⟩ => ⟨S_, .i32⟩
  | .hbm, ⟨66, _⟩ => ⟨S2097152, .i32⟩
  | .hbm, ⟨67, _⟩ => ⟨S2097152, .i32⟩
  | .hbm, ⟨68, _⟩ => ⟨S_, .i32⟩
  | .hbm, ⟨69, _⟩ => ⟨S2097152, .i32⟩
  | .hbm, ⟨70, _⟩ => ⟨S2097152, .i1⟩
  | .hbm, ⟨71, _⟩ => ⟨S_, .i32⟩
  | .hbm, ⟨72, _⟩ => ⟨S2097152, .i32⟩
  | .hbm, ⟨73, _⟩ => ⟨S2097152, .i32⟩
  | .hbm, ⟨74, _⟩ => ⟨S2097152, .i32⟩
  | .hbm, ⟨75, _⟩ => ⟨S2097152x1, .i32⟩
  | .hbm, ⟨76, _⟩ => ⟨S_, .i32⟩
  | .hbm, ⟨77, _⟩ => ⟨S2097152, .i32⟩
  | .hbm, ⟨78, _⟩ => ⟨S22, .i32⟩
  | .hbm, ⟨79, _⟩ => ⟨S21, .i32⟩
  | .hbm, ⟨80, _⟩ => ⟨S21, .f32⟩
  | .hbm, ⟨81, _⟩ => ⟨S21, .i32⟩
  | .hbm, ⟨82, _⟩ => ⟨S21, .f32⟩
  | .hbm, ⟨83, _⟩ => ⟨S21, .f32⟩
  | .hbm, ⟨84, _⟩ => ⟨S_, .f32⟩
  | .hbm, ⟨85, _⟩ => ⟨S21, .f32⟩
  | .hbm, ⟨86, _⟩ => ⟨S21, .f32⟩
  | .hbm, ⟨87, _⟩ => ⟨S_, .f32⟩
  | .hbm, ⟨88, _⟩ => ⟨S21, .f32⟩
  | .hbm, ⟨89, _⟩ => ⟨S21, .f32⟩
  | .hbm, ⟨90, _⟩ => ⟨S21, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | _, _ => ⟨S8x21x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_cst : Ref sig .tc := ⟨.hbm, 17, rfl⟩
abbrev main_call0_c : Ref sig .tc := ⟨.hbm, 18, rfl⟩
abbrev main_call0_v1_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_c_2 : Ref sig .tc := ⟨.hbm, 25, rfl⟩
abbrev main_call1_v0 : Ref sig .tc := ⟨.hbm, 26, rfl⟩
abbrev main_call1_v1 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_c_7 : Ref sig .tc := ⟨.hbm, 42, rfl⟩
abbrev main_call2_v0 : Ref sig .tc := ⟨.hbm, 43, rfl⟩
abbrev main_call2_v1 : Ref sig .tc := ⟨.hbm, 44, rfl⟩
abbrev main_v25 : Ref sig .tc := ⟨.hbm, 45, rfl⟩
abbrev main_c_8 : Ref sig .tc := ⟨.hbm, 46, rfl⟩
abbrev main_v26 : Ref sig .tc := ⟨.hbm, 47, rfl⟩
abbrev main_v27 : Ref sig .tc := ⟨.hbm, 48, rfl⟩
abbrev main_c_9 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_10 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_11 : Ref sig .tc := ⟨.hbm, 58, rfl⟩
abbrev main_call3_v0 : Ref sig .tc := ⟨.hbm, 59, rfl⟩
abbrev main_call3_v1 : Ref sig .tc := ⟨.hbm, 60, rfl⟩
abbrev main_v35 : Ref sig .tc := ⟨.hbm, 61, rfl⟩
abbrev main_c_12 : Ref sig .tc := ⟨.hbm, 62, rfl⟩
abbrev main_v36 : Ref sig .tc := ⟨.hbm, 63, rfl⟩
abbrev main_c_13 : Ref sig .tc := ⟨.hbm, 64, rfl⟩
abbrev main_call4_v0 : Ref sig .tc := ⟨.hbm, 65, rfl⟩
abbrev main_call4_v1 : Ref sig .tc := ⟨.hbm, 66, rfl⟩
abbrev main_v37 : Ref sig .tc := ⟨.hbm, 67, rfl⟩
abbrev main_c_14 : Ref sig .tc := ⟨.hbm, 68, rfl⟩
abbrev main_v38 : Ref sig .tc := ⟨.hbm, 69, rfl⟩
abbrev main_v39 : Ref sig .tc := ⟨.hbm, 70, rfl⟩
abbrev main_c_15 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_c_16 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_17 : Ref sig .tc := ⟨.hbm, 84, rfl⟩
abbrev main_v51 : Ref sig .tc := ⟨.hbm, 85, rfl⟩
abbrev main_v52 : Ref sig .tc := ⟨.hbm, 86, rfl⟩
abbrev main_cst_18 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_19 : Ref sig .tc := ⟨.hbm, 91, rfl⟩
abbrev main_v56 : Ref sig .tc := ⟨.hbm, 92, rfl⟩
abbrev main_cst_20 : Ref sig .tc := ⟨.hbm, 93, rfl⟩
abbrev main_v57 : Ref sig .tc := ⟨.hbm, 94, rfl⟩

abbrev nD : Nat := 1
abbrev τ : Topo := Topo.v7x

variable {F : FTy → Type} [FloatOps F]
-- ==== Proof.Loop.lean ====
/- The kernel's body as a loop. The version unrolls its two loops (the 32 groups of 16 rows of a sample, and the 21
   classes inside a group), so the printed body is a line of some five thousand memory operations. Here the same line is
   written once per class and once per group, in continuation form: `groupsP` runs the groups in order, `classesP` the
   classes of one group. It is stated over any signature, so that both printed programs are instances of it. -/
module

public import Idealize.ShloMosaic.Lib.Pipeline
public import Idealize.ShloMosaic.Lib.Scf
public import Idealize.ShloMosaic.Lib.Sig
public import Idealize.ShloMosaic.PureOps

@[expose] public section

noncomputable section

namespace Cert.Iou

open Idealize.ShloMosaic Idealize.SL.Sem

/-! ## Shapes and rectangles -/

/-- A sample's scores, -/
abbrev SP : Shape := ⟨4, ![1, 21, 512, 512]⟩
/-- a sample's labels, -/
abbrev ST : Shape := ⟨3, ![1, 512, 512]⟩
/-- an accumulator: per class, eight partial sums in each column, -/
abbrev SA : Shape := ⟨3, ![21, 8, 512]⟩
/-- the result's block. -/
abbrev SO : Shape := ⟨2, ![8, 128]⟩
abbrev SG : Shape := ⟨2, ![16, 512]⟩
abbrev SH : Shape := ⟨2, ![8, 512]⟩
abbrev SP1 : Shape := ⟨4, ![1, 1, 16, 512]⟩
abbrev ST1 : Shape := ⟨3, ![1, 16, 512]⟩
abbrev SA1 : Shape := ⟨3, ![1, 8, 512]⟩
abbrev SC : Shape := ⟨1, ![21]⟩
abbrev SC1 : Shape := ⟨2, ![1, 21]⟩
abbrev S1' : Shape := ⟨1, ![1]⟩
abbrev S11 : Shape := ⟨2, ![1, 1]⟩

/-- Where class `c`'s scores of group `r` begin, -/
abbrev offP (r : Fin 32) (c : Fin 21) : Fin 4 → ℕ := ![0, c.val, 16 * r.val, 0]
/-- where group `r`'s labels begin, -/
abbrev offT (r : Fin 32) : Fin 3 → ℕ := ![0, 16 * r.val, 0]
/-- and where class `c`'s accumulator begins. -/
abbrev offA (c : Fin 21) : Fin 3 → ℕ := ![c.val, 0, 0]

theorem inbP (r : Fin 32) (c : Fin 21) : ∀ a, offP r c a + SP1.size a ≤ SP.size a := by
  intro a; fin_cases a <;> simp [offP] <;> omega
theorem inbT (r : Fin 32) : ∀ a, offT r a + ST1.size a ≤ ST.size a := by
  intro a; fin_cases a <;> simp [offT] <;> omega
theorem inbA (c : Fin 21) : ∀ a, offA c a + SA1.size a ≤ SA.size a := by
  intro a; fin_cases a <;> simp [offA] <;> omega
theorem inbA0 : ∀ a, (![0, 0, 0] : Fin 3 → ℕ) a + SA.size a ≤ SA.size a := by decide
theorem inbO0 : ∀ a, (![0, 0] : Fin 2 → ℕ) a + SO.size a ≤ SO.size a := by decide

theorem hSP1 : 0 < SP1.numel := by decide
theorem hST1 : 0 < ST1.numel := by decide
theorem hSA1 : 0 < SA1.numel := by decide
theorem hSA : 0 < SA.numel := by decide
theorem hSO : 0 < SO.numel := by decide
theorem castP : SP1.ShapeCasts SG := by decide
theorem castT : ST1.ShapeCasts SG := by decide
theorem castA : SA1.ShapeCasts SH := by decide
theorem castH : SH.ShapeCasts SA1 := by decide
theorem castAA : SA.ShapeCasts SA := by decide
theorem sliceLo : SG.Slices ![0, 0] SH := by decide
theorem sliceHi : SG.Slices ![8, 0] SH := by decide
theorem redA : SA.Reduces [1, 2] SC := by decide
theorem castC : SC.ShapeCasts SC1 := by decide
theorem redC : SC1.Reduces [1] S1' := by decide
theorem cast11 : S1'.ShapeCasts S11 := by decide
theorem inp11 : ∀ a, (![0, 0] : Fin 2 → ℕ) a < S11.size a := by decide

variable {F : FTy → Type} [FloatOps F]

/-! ## What is computed -/

/-- Whether a pixel's label is class `c`, as a number. -/
def isLabel (t : IVec SG 32) (c : Fin 21) : FVec F SG .f32 :=
  select (cmpi .eq t (broadcast SG (BitVec.ofNat 32 c.val)))
    (broadcast SG (Scalar.ofBits .f32 0x3F800000#32 : F .f32)) (broadcast SG (Scalar.ofBits .f32 0x00000000#32 : F .f32))

/-- Class `c`'s part in the intersection at each pixel of a group: the label, where the class's score is the largest. -/
def interAt (t : IVec SG 32) (m x : FVec F SG .f32) (c : Fin 21) : FVec F SG .f32 :=
  select (cmpf .oeq x m) (isLabel t c) (broadcast SG (Scalar.ofBits .f32 0x00000000#32 : F .f32))

/-- Class `c`'s part in the union at each pixel of a group. -/
def unionAt (t : IVec SG 32) (m x : FVec F SG .f32) (c : Fin 21) : FVec F SG .f32 :=
  select (cmpf .oeq x m) (broadcast SG (Scalar.ofBits .f32 0x3F800000#32 : F .f32)) (isLabel t c)

/-- A group's 16 rows added into the accumulator's eight. -/
def accum (a : FVec F SA1 .f32) (g : FVec F SG .f32) : FVec F SA1 .f32 :=
  shapeCast SA1 (addf (shapeCast SH a castA) (addf (extractStridedSlice SH ![0, 0] g sliceLo) (extractStridedSlice SH ![8, 0] g sliceHi))) castH

/-- The result from the two accumulators. -/
def finish (I U : FVec F SA .f32) : FVec F SO .f32 :=
  broadcast SO (Scalar.divf
    (extractAt ![0, 0] (shapeCast S11 (multiReduction .add [1] S1' (shapeCast SC1
      (divf (addf (multiReduction .add [1, 2] SC I 0x00000000#32 redA (.inl rfl) rfl) (broadcast SC (Scalar.ofBits .f32 0x358637BD#32 : F .f32)))
        (addf (multiReduction .add [1, 2] SC U 0x00000000#32 redA (.inl rfl) rfl) (broadcast SC (Scalar.ofBits .f32 0x358637BD#32 : F .f32)))) castC)
      0x00000000#32 redC (.inl rfl) rfl) cast11) inp11)
    (Scalar.ofBits .f32 0x41A80000#32 : F .f32))

/-! ## The loops -/

variable {nD : ℕ} {τ : Topo} {sig : RefSig} {Λ : Labels}
  (a1 : Memref sig .tc .vmem SP .f32) (a2 : Memref sig .tc .vmem ST .i32) (a3 : Memref sig .tc .vmem SO .f32)
  (a4 a5 : Memref sig .tc .vmem SA .f32)

/-- The accumulator's row of class `c`, loaded, the group's part added, stored. -/
def addRow (a : Memref sig .tc .vmem SA .f32) (c : Fin 21) (g : FVec F SG .f32)
    (K : Prog (TpuEff nD τ sig (Elt F) Λ .tc) PUnit) : Prog (TpuEff nD τ sig (Elt F) Λ .tc) PUnit :=
  .op (.load a (Rect.unit (s := SA) (offA c) SA1.size (inbA c)).toLoadRect (View.loadsAt_vmem hSA1)) fun (y : Vec F SA1 .f32) =>
  .op (.load a (Rect.unit (s := SA) (offA c) SA1.size (inbA c)).toLoadRect (View.loadsAt_vmem hSA1)) fun _ =>
  .op (.store a (Rect.unit (s := SA) (offA c) SA1.size (inbA c)) (accum y g) Finset.univ (View.stores_vmem_bits_univ hSA1 rfl) (.inl rfl)) fun _ => K

/-- One class of one group. -/
def classP (r : Fin 32) (t : IVec SG 32) (m : FVec F SG .f32) (c : Fin 21)
    (K : Prog (TpuEff nD τ sig (Elt F) Λ .tc) PUnit) : Prog (TpuEff nD τ sig (Elt F) Λ .tc) PUnit :=
  .op (.load a1 (Rect.unit (s := SP) (offP r c) SP1.size (inbP r c)).toLoadRect (View.loadsAt_vmem hSP1)) fun (x : Vec F SP1 .f32) =>
    addRow a4 c (interAt t m (shapeCast SG x castP) c) (addRow a5 c (unionAt t m (shapeCast SG x castP) c) K)

/-- The classes of one group, in order. -/
def classesP (r : Fin 32) (t : IVec SG 32) (m : FVec F SG .f32) :
    List (Fin 21) → Prog (TpuEff nD τ sig (Elt F) Λ .tc) PUnit → Prog (TpuEff nD τ sig (Elt F) Λ .tc) PUnit
  | [], K => K
  | c :: l, K => classP a1 a4 a5 r t m c (classesP r t m l K)

/-- The largest score of each pixel, over the classes listed and what is given. -/
def maxP {α : Type} (r : Fin 32) : List (Fin 21) → FVec F SG .f32 → (FVec F SG .f32 → Prog (TpuEff nD τ sig (Elt F) Λ .tc) α) →
    Prog (TpuEff nD τ sig (Elt F) Λ .tc) α
  | [], m, K => K m
  | c :: l, m, K =>
    .op (.load a1 (Rect.unit (s := SP) (offP r c) SP1.size (inbP r c)).toLoadRect (View.loadsAt_vmem hSP1)) fun (x : Vec F SP1 .f32) =>
      maxP r l (maximumf m (shapeCast SG x castP)) K

/-- One group of rows. -/
def groupP (r : Fin 32) (K : Prog (TpuEff nD τ sig (Elt F) Λ .tc) PUnit) : Prog (TpuEff nD τ sig (Elt F) Λ .tc) PUnit :=
  .op (.load a2 (Rect.unit (s := ST) (offT r) ST1.size (inbT r)).toLoadRect (View.loadsAt_vmem hST1)) fun (t : Vec F ST1 .i32) =>
  .op (.load a1 (Rect.unit (s := SP) (offP r 0) SP1.size (inbP r 0)).toLoadRect (View.loadsAt_vmem hSP1)) fun (x : Vec F SP1 .f32) =>
    maxP a1 r ((List.finRange 20).map Fin.succ) (shapeCast SG x castP) fun m =>
      classesP a1 a4 a5 r (shapeCast SG t castT) m (List.finRange 21) K

/-- The groups, in order. -/
def groupsP : List (Fin 32) → Prog (TpuEff nD τ sig (Elt F) Λ .tc) PUnit → Prog (TpuEff nD τ sig (Elt F) Λ .tc) PUnit
  | [], K => K
  | r :: l, K => groupP a1 a2 a4 a5 r (groupsP l K)

/-- At the first point, both accumulators are set to zero. -/
def zeroP {α : Type} (K : Prog (TpuEff nD τ sig (Elt F) Λ .tc) α) : Prog (TpuEff nD τ sig (Elt F) Λ .tc) α :=
  .op (.load a4 (Rect.unit (s := SA) ![0, 0, 0] SA.size inbA0).toLoadRect (View.loadsAt_vmem hSA)) fun _ =>
  .op (.store a4 (Rect.unit (s := SA) ![0, 0, 0] SA.size inbA0)
    (shapeCast SA (broadcast SA (Scalar.ofBits .f32 0x00000000#32 : F .f32)) castAA) Finset.univ (View.stores_vmem_bits_univ hSA rfl) (.inl rfl)) fun _ =>
  .op (.load a5 (Rect.unit (s := SA) ![0, 0, 0] SA.size inbA0).toLoadRect (View.loadsAt_vmem hSA)) fun _ =>
  .op (.store a5 (Rect.unit (s := SA) ![0, 0, 0] SA.size inbA0)
    (shapeCast SA (broadcast SA (Scalar.ofBits .f32 0x00000000#32 : F .f32)) castAA) Finset.univ (View.stores_vmem_bits_univ hSA rfl) (.inl rfl)) fun _ =>
  K

/-- At the last point, the result is computed from the accumulators and stored. -/
def finishP : Prog (TpuEff nD τ sig (Elt F) Λ .tc) PUnit :=
  .op (.load a4 (Rect.unit (s := SA) ![0, 0, 0] SA.size inbA0).toLoadRect (View.loadsAt_vmem hSA)) fun (I : Vec F SA .f32) =>
  .op (.load a5 (Rect.unit (s := SA) ![0, 0, 0] SA.size inbA0).toLoadRect (View.loadsAt_vmem hSA)) fun (U : Vec F SA .f32) =>
  .op (.load a3 (Rect.unit (s := SO) ![0, 0] SO.size inbO0).toLoadRect (View.loadsAt_vmem hSO)) fun _ =>
  .op (.store a3 (Rect.unit (s := SO) ![0, 0] SO.size inbO0) (finish I U) Finset.univ (View.stores_vmem_bits_univ hSO rfl) (.inl rfl)) fun _ =>
  .ret ⟨⟩

/-- All the groups, then the result if `fin`. -/
def restP (fin : BitVec 1) : Prog (TpuEff nD τ sig (Elt F) Λ .tc) PUnit :=
  groupsP a1 a2 a4 a5 (List.finRange 32) (if _h : fin = 1#1 then finishP a3 a4 a5 else .ret ⟨⟩)

/-- The whole body: the accumulators set to zero if `init`, all the groups, the result if `fin`. -/
def bodyP (init fin : BitVec 1) : Prog (TpuEff nD τ sig (Elt F) Λ .tc) PUnit :=
  if _h : init = 1#1 then zeroP a4 a5 (restP a1 a2 a3 a4 a5 fin) else restP a1 a2 a3 a4 a5 fin

/-- The first operations of the body, up to the seventh class's score of the first group, with the values read. -/
def headP {α : Type} (K : IVec SG 32 → FVec F SG .f32 → α) : Prog (TpuEff nD τ sig (Elt F) Λ .tc) α :=
  .op (.load a2 (Rect.unit (s := ST) (offT 0) ST1.size (inbT 0)).toLoadRect (View.loadsAt_vmem hST1)) fun (t : Vec F ST1 .i32) =>
  .op (.load a1 (Rect.unit (s := SP) (offP 0 0) SP1.size (inbP 0 0)).toLoadRect (View.loadsAt_vmem hSP1)) fun (x : Vec F SP1 .f32) =>
    maxP a1 0 [1, 2, 3, 4, 5, 6] (shapeCast SG x castP) fun m => .ret (K (shapeCast SG t castT) m)

end Cert.Iou

end
-- ==== Proof.Triple.lean ====
/- What the loop of Loop.lean does to the memory it owns: loads and stores through `owns`, then the class, the group, and
   the whole body by induction on the lists. The state is the pair of accumulators; each step's effect is a plain function
   of the pair, the sample's scores and its labels. -/
module

public import proofs.«01_k».proof.Proof.Loop
public import Idealize.ShloMosaic.Lib.VecWindow
public import Idealize.ShloMosaic.Lib.Tactic
public import Idealize.ShloMosaic.Rules.Step

@[expose] public section

noncomputable section

namespace Cert.Iou

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

/-! ## The effect, as functions -/

section Pure

variable {F : FTy → Type} [FloatOps F]

/-- Class `c`'s scores of group `r`, -/
def scores (P : FVec F SP .f32) (r : Fin 32) (c : Fin 21) : FVec F SG .f32 :=
  shapeCast SG (window (s := SP) P (offP r c) SP1.size (inbP r c)) castP
/-- the group's labels, -/
def labels (T : IVec ST 32) (r : Fin 32) : IVec SG 32 :=
  shapeCast SG (window (s := ST) T (offT r) ST1.size (inbT r)) castT
/-- the largest score of each pixel over the classes listed and what is given, -/
def maxOver (P : FVec F SP .f32) (r : Fin 32) (l : List (Fin 21)) (m : FVec F SG .f32) : FVec F SG .f32 :=
  l.foldl (fun m c => maximumf m (scores P r c)) m
/-- and over all of them. -/
def best (P : FVec F SP .f32) (r : Fin 32) : FVec F SG .f32 :=
  maxOver P r ((List.finRange 20).map Fin.succ) (scores P r 0)

/-- A group added into class `c`'s accumulator. -/
def addAt (A : FVec F SA .f32) (c : Fin 21) (g : FVec F SG .f32) : FVec F SA .f32 :=
  put (s := SA) A (offA c) SA1.size (accum (window (s := SA) A (offA c) SA1.size (inbA c)) g)

/-- One class of one group. -/
def classStep (P : FVec F SP .f32) (t : IVec SG 32) (m : FVec F SG .f32) (r : Fin 32) (A : FVec F SA .f32 × FVec F SA .f32) (c : Fin 21) :
    FVec F SA .f32 × FVec F SA .f32 :=
  (addAt A.1 c (interAt t m (scores P r c) c), addAt A.2 c (unionAt t m (scores P r c) c))

/-- One group. -/
def groupStep (P : FVec F SP .f32) (T : IVec ST 32) (A : FVec F SA .f32 × FVec F SA .f32) (r : Fin 32) : FVec F SA .f32 × FVec F SA .f32 :=
  (List.finRange 21).foldl (classStep P (labels T r) (best P r) r) A

/-- One sample. -/
def sampleStep (P : FVec F SP .f32) (T : IVec ST 32) (A : FVec F SA .f32 × FVec F SA .f32) : FVec F SA .f32 × FVec F SA .f32 :=
  (List.finRange 32).foldl (groupStep P T) A

/-- An empty accumulator. -/
def zeros : FVec F SA .f32 := shapeCast SA (broadcast SA (Scalar.ofBits .f32 0x00000000#32 : F .f32)) castAA

end Pure

/-! ## Loads and stores -/

section Rules

variable {nD : ℕ} {τ : Topo} {sig : RefSig} {Λ : Labels} {Val : EltTy → Type} [∀ e, Nonempty (Val e)]
  {Name : Type} [DecidableEq Name] {U : Type} [URA U] {Lvl : Type} [Preorder Lvl] {Ix : Type} [DecidableEq Ix]
  {defs : Defs nD τ sig Val Λ} {𝒱 : Variants} {c : Dev nD} {bd : Option 𝒱.V} {E : Set Name}
  {s : Shape} {e : EltTy} {α : Type} {Q : α → sProp (MT nD τ sig Ix Val Name U Lvl)}

/-- A load of a box, of a memref held whole. -/
theorem wp_load_box {m : Memref sig .tc .vmem s e} {off size : Fin s.rank → ℕ} (inb : ∀ a, off a + size a ≤ s.size a)
    {hl : m.view.LoadsAt (Rect.unit off size inb).toLoadRect}
    {k : ((Rect.unit off size inb).shape.Idx → Val e) → Prog (TpuEff nD τ sig Val Λ .tc) α} {q : PosShare TreeShare} {X : s.Idx → Val e} :
    iprop(owns (c : Thread nD τ) m q X ∗ (owns (c : Thread nD τ) m q X -∗ wp frame (wpE defs 𝒱 (c : Thread nD τ) bd) E (k (window X off size inb)) Q))
      ⊢ wp frame (wpE defs 𝒱 (c : Thread nD τ) bd) E (.op (.load m (Rect.unit off size inb).toLoadRect hl) k) Q := by
  iintro ⟨H, HK⟩
  unfold owns
  icases H with ⟨%f, %hf, H⟩
  have e1 : m.view.readAt Val (Rect.unit off size inb).toLoadRect f = window X off size inb := by
    rw [View.readAt_unit m.view f inb rfl inb, hf]
  have h := wp_load (Γ := .empty) (defs := defs) 𝒱 (c : Thread nD τ) bd E (Q := Q) (m := m) (r := (Rect.unit off size inb).toLoadRect) (hl := hl) (k := k) (q := q)
    (S := m.view.set) (f := f) (m.view.setOn_subset_set _)
  rw [e1] at h
  iapply h $$ H
  iintro H
  iapply HK
  iexists f
  isplitr
  · ipureintro; exact hf
  · iexact H

/-- A store of a box. -/
theorem wp_store_box {m : Memref sig .tc .vmem s e} {off size : Fin s.rank → ℕ} (inb : ∀ a, off a + size a ≤ s.size a)
    {w : (Rect.unit off size inb).shape.Idx → Val e} {hx : (m.access (Rect.unit off size inb)).Stores Finset.univ}
    {hm : Finset.univ = Finset.univ ∨ ∀ a, (Rect.unit off size inb).stride a = 1}
    {k : PUnit → Prog (TpuEff nD τ sig Val Λ .tc) α} {X : s.Idx → Val e} :
    iprop(owns (c : Thread nD τ) m fullShare X ∗ (owns (c : Thread nD τ) m fullShare (put X off size w) -∗ wp frame (wpE defs 𝒱 (c : Thread nD τ) bd) E (k ⟨⟩) Q))
      ⊢ wp frame (wpE defs 𝒱 (c : Thread nD τ) bd) E (.op (.store m (Rect.unit off size inb) w Finset.univ hx hm) k) Q := by
  iintro ⟨H, HK⟩
  unfold owns
  icases H with ⟨%f, %hf, H⟩
  have e1 : m.view.read Val (m.view.writes Val f [⟨Rect.unit off size inb, w⟩]) = put X off size w := by
    rw [View.read_writes_cons_put m.view f inb w [] rfl, View.writes_nil, hf]
  iapply wp_store_writes₀ 𝒱 (c : Thread nD τ) bd E (Q := Q) (m := m) (r := Rect.unit off size inb) (w := w) (hx := hx) (hm := hm) (k := k)
    (S := m.view.set) (f := f) (m.view.set_slice_subset _) $$ H
  iintro H
  iapply HK
  iexists _
  isplitr
  · ipureintro; exact e1
  · iexact H

theorem window_all {β : Type} (X : s.Idx → β) {off : Fin s.rank → ℕ} (inb : ∀ a, off a + s.size a ≤ s.size a) : window X off s.size inb = X := by
  funext y
  exact congrArg X (funext fun a => Fin.ext (by show off a + 1 * (y a).val = (y a).val; have := inb a; omega))

theorem put_all {β : Type} (X w : s.Idx → β) {off : Fin s.rank → ℕ} (inb : ∀ a, off a + s.size a ≤ s.size a) : put X off s.size w = w := by
  rw [← window_all (put X off s.size w) inb]; exact VecWindow.window_put_same X off s.size inb w

end Rules

/-! ## The loops -/

section Loops

variable {nD : ℕ} {τ : Topo} {sig : RefSig} {Λ : Labels} {F : FTy → Type} [FloatOps F]
  {Name : Type} [DecidableEq Name] {U : Type} [URA U] {Lvl : Type} [Preorder Lvl] {Ix : Type} [DecidableEq Ix]
  {defs : Defs nD τ sig (Elt F) Λ} {𝒱 : Variants} {c : Dev nD} {bd : Option 𝒱.V} {E : Set Name}
  {a1 : Memref sig .tc .vmem SP .f32} {a2 : Memref sig .tc .vmem ST .i32} {a3 : Memref sig .tc .vmem SO .f32}
  {a4 a5 : Memref sig .tc .vmem SA .f32}

local notation "𝕄" => MT nD τ sig Ix (Elt F) Name U Lvl

variable (c a1 a2 a4 a5) in
/-- What the loops hold: the sample, its labels, and the two accumulators. -/
def held (P : FVec F SP .f32) (T : IVec ST 32) (A : FVec F SA .f32 × FVec F SA .f32) : sProp 𝕄 :=
  iprop(owns (Val := Elt F) (c : Thread nD τ) a1 fullShare P ∗ owns (Val := Elt F) (c : Thread nD τ) a2 fullShare T
    ∗ owns (Val := Elt F) (c : Thread nD τ) a4 fullShare A.1 ∗ owns (Val := Elt F) (c : Thread nD τ) a5 fullShare A.2)

variable {α : Type} {Q : α → sProp (MT nD τ sig Ix (Elt F) Name U Lvl)} {Q₀ : PUnit.{1} → sProp (MT nD τ sig Ix (Elt F) Name U Lvl)}
  {P : FVec F SP .f32} {T : IVec ST 32}

theorem wp_addRow (a : Memref sig .tc .vmem SA .f32) (A : FVec F SA .f32) (k : Fin 21) (g : FVec F SG .f32)
    (K : Prog (TpuEff nD τ sig (Elt F) Λ .tc) PUnit.{1}) :
    iprop(owns (Val := Elt F) (c : Thread nD τ) a fullShare A
        ∗ (owns (Val := Elt F) (c : Thread nD τ) a fullShare (addAt A k g) -∗ wp (M := 𝕄) frame (wpE defs 𝒱 (c : Thread nD τ) bd) E K Q₀))
      ⊢ wp (M := 𝕄) frame (wpE defs 𝒱 (c : Thread nD τ) bd) E (addRow a k g K) Q₀ := by
  iintro ⟨H, HK⟩
  unfold addRow
  iapply wp_load_box (inbA k)
  isplitl [H]; · iexact H
  iintro H
  iapply wp_load_box (inbA k)
  isplitl [H]; · iexact H
  iintro H
  iapply wp_store_box (inbA k)
  isplitl [H]; · iexact H
  iexact HK

theorem wp_classP (r : Fin 32) (t : IVec SG 32) (m : FVec F SG .f32) (k : Fin 21) (A : FVec F SA .f32 × FVec F SA .f32)
    (K : Prog (TpuEff nD τ sig (Elt F) Λ .tc) PUnit.{1}) :
    iprop(held c a1 a2 a4 a5 P T A
        ∗ (held c a1 a2 a4 a5 P T (classStep P t m r A k) -∗ wp (M := 𝕄) frame (wpE defs 𝒱 (c : Thread nD τ) bd) E K Q₀))
      ⊢ wp (M := 𝕄) frame (wpE defs 𝒱 (c : Thread nD τ) bd) E (classP a1 a4 a5 r t m k K) Q₀ := by
  unfold held classP
  iintro ⟨⟨H1, H2, H4, H5⟩, HK⟩
  iapply wp_load_box (inbP r k)
  isplitl [H1]; · iexact H1
  iintro H1
  iapply wp_addRow a4 A.1 k
  isplitl [H4]; · iexact H4
  iintro H4
  iapply wp_addRow a5 A.2 k
  isplitl [H5]; · iexact H5
  iintro H5
  iapply HK
  isplitl [H1]; · iexact H1
  isplitl [H2]; · iexact H2
  isplitl [H4]; · iexact H4
  iexact H5

theorem wp_classesP (r : Fin 32) (t : IVec SG 32) (m : FVec F SG .f32) (K : Prog (TpuEff nD τ sig (Elt F) Λ .tc) PUnit.{1}) :
    ∀ (l : List (Fin 21)) (A : FVec F SA .f32 × FVec F SA .f32),
    iprop(held c a1 a2 a4 a5 P T A
        ∗ (held c a1 a2 a4 a5 P T (l.foldl (classStep P t m r) A) -∗ wp (M := 𝕄) frame (wpE defs 𝒱 (c : Thread nD τ) bd) E K Q₀))
      ⊢ wp (M := 𝕄) frame (wpE defs 𝒱 (c : Thread nD τ) bd) E (classesP a1 a4 a5 r t m l K) Q₀
  | [], A => by
    unfold classesP
    iintro ⟨H, HK⟩
    iapply HK; iexact H
  | k :: l, A => by
    unfold classesP
    iintro ⟨H, HK⟩
    iapply wp_classP r t m k A
    isplitl [H]; · iexact H
    iintro H
    iapply wp_classesP r t m K l
    isplitl [H]; · iexact H
    iexact HK

theorem wp_maxP (r : Fin 32) (K : FVec F SG .f32 → Prog (TpuEff nD τ sig (Elt F) Λ .tc) α) :
    ∀ (l : List (Fin 21)) (m : FVec F SG .f32),
    iprop(owns (Val := Elt F) (c : Thread nD τ) a1 fullShare P
        ∗ (owns (Val := Elt F) (c : Thread nD τ) a1 fullShare P -∗ wp (M := 𝕄) frame (wpE defs 𝒱 (c : Thread nD τ) bd) E (K (maxOver P r l m)) Q))
      ⊢ wp (M := 𝕄) frame (wpE defs 𝒱 (c : Thread nD τ) bd) E (maxP a1 r l m K) Q
  | [], m => by
    unfold maxP
    iintro ⟨H, HK⟩
    iapply HK; iexact H
  | k :: l, m => by
    unfold maxP
    iintro ⟨H, HK⟩
    iapply wp_load_box (inbP r k)
    isplitl [H]; · iexact H
    iintro H
    iapply wp_maxP r K l
    isplitl [H]; · iexact H
    iexact HK

theorem wp_groupP (r : Fin 32) (A : FVec F SA .f32 × FVec F SA .f32) (K : Prog (TpuEff nD τ sig (Elt F) Λ .tc) PUnit.{1}) :
    iprop(held c a1 a2 a4 a5 P T A
        ∗ (held c a1 a2 a4 a5 P T (groupStep P T A r) -∗ wp (M := 𝕄) frame (wpE defs 𝒱 (c : Thread nD τ) bd) E K Q₀))
      ⊢ wp (M := 𝕄) frame (wpE defs 𝒱 (c : Thread nD τ) bd) E (groupP a1 a2 a4 a5 r K) Q₀ := by
  unfold groupP
  iintro ⟨H, HK⟩
  unfold held
  icases H with ⟨H1, H2, H4, H5⟩
  iapply wp_load_box (inbT r)
  isplitl [H2]; · iexact H2
  iintro H2
  iapply wp_load_box (inbP r 0)
  isplitl [H1]; · iexact H1
  iintro H1
  iapply wp_maxP r
  isplitl [H1]; · iexact H1
  iintro H1
  iapply wp_classesP (a2 := a2) (T := T) (P := P) r _ _ K (List.finRange 21) A
  isplitl [H1 H2 H4 H5]
  · unfold held
    isplitl [H1]; · iexact H1
    isplitl [H2]; · iexact H2
    isplitl [H4]; · iexact H4
    iexact H5
  iexact HK

theorem wp_groupsP (K : Prog (TpuEff nD τ sig (Elt F) Λ .tc) PUnit.{1}) :
    ∀ (l : List (Fin 32)) (A : FVec F SA .f32 × FVec F SA .f32),
    iprop(held c a1 a2 a4 a5 P T A
        ∗ (held c a1 a2 a4 a5 P T (l.foldl (groupStep P T) A) -∗ wp (M := 𝕄) frame (wpE defs 𝒱 (c : Thread nD τ) bd) E K Q₀))
      ⊢ wp (M := 𝕄) frame (wpE defs 𝒱 (c : Thread nD τ) bd) E (groupsP a1 a2 a4 a5 l K) Q₀
  | [], A => by
    unfold groupsP
    iintro ⟨H, HK⟩
    iapply HK; iexact H
  | r :: l, A => by
    unfold groupsP
    iintro ⟨H, HK⟩
    iapply wp_groupP r A
    isplitl [H]; · iexact H
    iintro H
    iapply wp_groupsP K l
    isplitl [H]; · iexact H
    iexact HK

theorem wp_zeroP (A : FVec F SA .f32 × FVec F SA .f32) (K : Prog (TpuEff nD τ sig (Elt F) Λ .tc) PUnit.{1}) :
    iprop(held c a1 a2 a4 a5 P T A
        ∗ (held c a1 a2 a4 a5 P T (zeros, zeros) -∗ wp (M := 𝕄) frame (wpE defs 𝒱 (c : Thread nD τ) bd) E K Q₀))
      ⊢ wp (M := 𝕄) frame (wpE defs 𝒱 (c : Thread nD τ) bd) E (zeroP a4 a5 K) Q₀ := by
  unfold held zeroP
  iintro ⟨⟨H1, H2, H4, H5⟩, HK⟩
  iapply wp_load_box inbA0
  isplitl [H4]; · iexact H4
  iintro H4
  iapply wp_store_box inbA0
  isplitl [H4]; · iexact H4
  iintro H4
  iapply wp_load_box inbA0
  isplitl [H5]; · iexact H5
  iintro H5
  iapply wp_store_box inbA0
  isplitl [H5]; · iexact H5
  iintro H5
  rw [put_all (s := SA) A.1 _ inbA0, put_all (s := SA) A.2 _ inbA0]
  iapply HK
  isplitl [H1]; · iexact H1
  isplitl [H2]; · iexact H2
  isplitl [H4]; · iexact H4
  iexact H5

/-- The body where the result is not stored. -/
theorem wp_bodyP_mid (A : FVec F SA .f32 × FVec F SA .f32) (init fin : BitVec 1) (hf : ¬fin = 1#1) :
    iprop(held c a1 a2 a4 a5 P T A
        ∗ (held c a1 a2 a4 a5 P T (sampleStep P T (if init = 1#1 then (zeros, zeros) else A)) -∗ Q₀ ⟨⟩))
      ⊢ wp (M := 𝕄) frame (wpE defs 𝒱 (c : Thread nD τ) bd) E (bodyP a1 a2 a3 a4 a5 init fin) Q₀ := by
  unfold bodyP restP
  rw [dif_neg hf]
  by_cases hi : init = 1#1
  · rw [dif_pos hi, if_pos hi]
    iintro ⟨H, HK⟩
    iapply wp_zeroP A
    isplitl [H]; · iexact H
    iintro H
    iapply wp_groupsP
    isplitl [H]; · iexact H
    iintro H
    iapply le_wp_ret
    iapply HK; iexact H
  · rw [dif_neg hi, if_neg hi]
    iintro ⟨H, HK⟩
    iapply wp_groupsP
    isplitl [H]; · iexact H
    iintro H
    iapply le_wp_ret
    iapply HK; iexact H

/-- The body where it is. -/
theorem wp_bodyP_last (A : FVec F SA .f32 × FVec F SA .f32) (O : FVec F SO .f32) (init fin : BitVec 1) (hi : ¬init = 1#1) (hf : fin = 1#1) :
    iprop(held c a1 a2 a4 a5 P T A ∗ owns (Val := Elt F) (c : Thread nD τ) a3 fullShare O
        ∗ (iprop(held c a1 a2 a4 a5 P T (sampleStep P T A)
              ∗ owns (Val := Elt F) (c : Thread nD τ) a3 fullShare (finish (sampleStep P T A).1 (sampleStep P T A).2)) -∗ Q₀ ⟨⟩))
      ⊢ wp (M := 𝕄) frame (wpE defs 𝒱 (c : Thread nD τ) bd) E (bodyP a1 a2 a3 a4 a5 init fin) Q₀ := by
  unfold bodyP restP
  rw [dif_pos hf, dif_neg hi]
  iintro ⟨H, H3, HK⟩
  iapply wp_groupsP
  isplitl [H]; · iexact H
  iintro H
  unfold finishP
  rw [show (List.finRange 32).foldl (groupStep P T) A = sampleStep P T A from rfl]
  generalize sampleStep P T A = B
  unfold held
  icases H with ⟨H1, H2, H4, H5⟩
  iapply wp_load_box inbA0
  isplitl [H4]; · iexact H4
  iintro H4
  iapply wp_load_box inbA0
  isplitl [H5]; · iexact H5
  iintro H5
  iapply wp_load_box inbO0
  isplitl [H3]; · iexact H3
  iintro H3
  iapply wp_store_box inbO0
  isplitl [H3]; · iexact H3
  iintro H3
  iapply le_wp_ret
  rw [put_all (s := SO) _ _ inbO0, window_all (s := SA) B.1 inbA0, window_all (s := SA) B.2 inbA0]
  iapply HK
  isplitr [H3]
  · isplitl [H1]; · iexact H1
    isplitl [H2]; · iexact H2
    isplitl [H4]; · iexact H4
    iexact H5
  iexact H3

end Loops

end Cert.Iou

end
-- ==== Proof.BodyKI.lean ====
/- The printed body is the loop of Loop.lean: both are the same line of memory operations once every definition is
   unfolded, which the kernel of the prover finds by computation. -/
module

public import proofs.«01_k».proof.Proof.Gen.KernelIdeal
public import proofs.«01_k».proof.Proof.Loop
public import Idealize.ShloMosaic.Lib.Tactic

@[expose] public section

set_option Elab.async false
set_option maxRecDepth 16384

noncomputable section

namespace Cert.KernelIdeal

open Idealize.ShloMosaic Idealize.ShloMosaic.Tactic Idealize.SL.Sem

variable {F : FTy → Type} [FloatOps F]

/-- The condition of the first point, as the body computes it. -/
def init0 (i : grid0.Coords) : BitVec 1 := Scalar.cmpi .ne (Scalar.extui (Scalar.cmpi .eq (BitVec.ofNat 32 (i 0).val) 0#32)) 0#32

variable (i : grid0.Coords) (arg1 : Memref sig .tc .vmem S1x21x512x512 .f32) (harg1 : arg1.IsWhole)
    (arg2 : Memref sig .tc .vmem S1x512x512 .i32) (harg2 : arg2.IsWhole) (arg3 : Memref sig .tc .vmem S8x128 .f32) (harg3 : arg3.IsWhole)
    (arg4 : Memref sig .tc .vmem S21x8x512 .f32) (harg4 : arg4.IsWhole) (arg5 : Memref sig .tc .vmem S21x8x512 .f32) (harg5 : arg5.IsWhole)

theorem part1_eq :
    k0_part1 (F := F) i arg1 harg1 arg2 harg2 arg3 harg3 arg4 harg4 arg5 harg5
      = if _h : init0 i = 1#1 then Iou.zeroP arg4 arg5 (Iou.headP arg1 arg2 fun t m => ⟨BitVec.ofNat 32 (i 0).val, t, m⟩)
        else Iou.headP arg1 arg2 fun t m => ⟨BitVec.ofNat 32 (i 0).val, t, m⟩ := by
  sl_kernel_rfl

theorem body_eq :
    cc0_iou_counts (F := F) i arg1 harg1 arg2 harg2 arg3 harg3 arg4 harg4 arg5 harg5
      = Iou.bodyP arg1 arg2 arg3 arg4 arg5 (init0 i) (k0_cond2 i) := by
  delta cc0_iou_counts k0_part675
  rw [part1_eq]
  unfold Iou.bodyP
  by_cases h : init0 i = 1#1
  · rw [dif_pos h, dif_pos h]
    sl_kernel_rfl
  · rw [dif_neg h, dif_neg h]
    sl_kernel_rfl

end Cert.KernelIdeal

end
-- ==== Proof.RunKI.lean ====
/- The launch: the pipeline's data with both accumulators named after every sample, the body's triple from Triple.lean, the
   run, the frame, and what the result buffer holds. -/
module

public import proofs.«01_k».proof.Proof.BodyKI
public import proofs.«01_k».proof.Proof.Triple
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Pipeline.Value
public import Idealize.ShloMosaic.Lib.WordCmp

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Gen (launch0 N_0 bigSep_W0 scopedRest0_eq hostOps1 hostOps1_sub main_chain flush0_2 bodyAt0)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which point is the first, which the last -/

theorem N_eq : cfg0.N = 8 := N_0

theorem coord_eq (t : Fin cfg0.N) : (grid0.coords t 0).val = t.val := by
  have h : (grid0.coords t 0).val = t.val / 1 % 8 := Pipeline.Grid.coords_val t 0 (by decide) rfl
  have := N_eq; have := t.isLt
  omega

theorem init_iff (t : Fin cfg0.N) : init0 (grid0.coords t) = 1#1 ↔ t.val = 0 := by
  have ht : t.val < 8 := lt_of_lt_of_eq t.isLt N_eq
  simp only [init0, coord_eq]
  word_cmp

theorem fin_iff (t : Fin cfg0.N) : k0_cond2 (grid0.coords t) = 1#1 ↔ t.val = 7 := by
  have ht : t.val < 8 := lt_of_lt_of_eq t.isLt N_eq
  simp only [k0_cond2, coord_eq]
  word_cmp

/-! ## The data of the pipeline -/

/-- What the arguments hold, as buffers of the device. -/
abbrev start (c : Dev nD) : Valuation τ sig (Elt F) := fun b => m (c, b)

/-- Sample `t`'s scores -/
def predBlk (c : Dev nD) (t : Fin cfg0.N) : FVec F Iou.SP .f32 :=
  ((cfg0.win 0).blk t).view.read (Elt F) (start m c (Proc.devRef .tc main_arg0))
/-- and labels. -/
def tgtBlk (c : Dev nD) (t : Fin cfg0.N) : IVec Iou.ST 32 :=
  ((cfg0.win 1).blk t).view.read (Elt F) (start m c (Proc.devRef .tc main_arg1))

/-- The accumulators after `n` samples. -/
def accAt (c : Dev nD) : (n : ℕ) → n ≤ cfg0.N → FVec F Iou.SA .f32 × FVec F Iou.SA .f32
  | 0, _ => (Iou.zeros, Iou.zeros)
  | n + 1, h => Iou.sampleStep (predBlk m c ⟨n, h⟩) (tgtBlk m c ⟨n, h⟩) (accAt c n (Nat.le_of_lt h))

/-- The result of the call after point `t`, were it stored there. -/
def outAt (c : Dev nD) (t : Fin cfg0.N) : FVec F Iou.SO .f32 :=
  Iou.finish (accAt m c (t.val + 1) t.isLt).1 (accAt m c (t.val + 1) t.isLt).2

abbrev accI : Memref sig .tc .vmem S21x8x512 .f32 := Memref.whole cc0_scratch0
abbrev accU : Memref sig .tc .vmem S21x8x512 .f32 := Memref.whole cc0_scratch1

/-- Between points: at first anything, afterwards the accumulators after that many samples. -/
def between (c : Dev nD) : (n : ℕ) → n ≤ cfg0.N → sProp 𝕄
  | 0, _ => Pipeline.ΦA spec0 c
  | n + 1, h => iprop((owns (c : Thread nD τ) accI fullShare (accAt m c (n + 1) h).1 ∗ owns (c : Thread nD τ) accU fullShare (accAt m c (n + 1) h).2)
      ∗ (∃ r, prngReg c r))

theorem entry_eq (c : Dev nD) :
    (Pipeline.ΦA spec0 c : sProp 𝕄)
      = iprop(((∃ d, owns (c : Thread nD τ) accI fullShare d) ∗ (∃ d, owns (c : Thread nD τ) accU fullShare d)) ∗ (∃ r, prngReg c r)) := by
  unfold Pipeline.ΦA; rw [scopedRest0_eq]; simp only [accI, accU, owns_whole]; rfl

def dats (_ : Fin 1) (c : Dev nD) : Dat τ (Elt F) Unit ℕ (UR sig nD τ) ℕ cfg0 c where
  A w := start m c (Proc.devRef .tc (Pipeline.arrRef spec0 w))
  after w t := match w with
    | ⟨0, _⟩ => predBlk m c t
    | ⟨1, _⟩ => tgtBlk m c t
    | ⟨2, _⟩ => outAt m c t
  Φ t := between m c t.val (Nat.le_of_lt_succ t.isLt)
  q _ := fullShare
  owed _ := 0

theorem before_pred (c : Dev nD) (t : Fin cfg0.N) (d) : (dats m 0 c).before 0 t d = predBlk m c t :=
  ((dats m 0 c).before_in_eq_fetched 0 rfl (fun _ => rfl) (fun _ _ _ => rfl) (fun _ => rfl) t d).trans rfl

theorem before_tgt (c : Dev nD) (t : Fin cfg0.N) (d) : (dats m 0 c).before 1 t d = tgtBlk m c t :=
  ((dats m 0 c).before_in_eq_fetched 1 rfl (fun _ => rfl) (fun _ _ _ => rfl) (fun _ => rfl) t d).trans rfl

theorem leaves_pred (c : Dev nD) (t : Fin cfg0.N) :
    (dats m 0 c).leavesExact 0 t = owns (c : Thread nD τ) (win0_0.stage (cfg0.slots t 0)) fullShare (predBlk m c t) := rfl
theorem leaves_tgt (c : Dev nD) (t : Fin cfg0.N) :
    (dats m 0 c).leavesExact 1 t = owns (c : Thread nD τ) (win0_1.stage (cfg0.slots t 1)) fullShare (tgtBlk m c t) := rfl

theorem idle_iff (t : Fin cfg0.N) : cfg0.idle 2 (cfg0.grid.coords t) = true ↔ t.val ≠ 7 := by
  rw [← not_iff_not, not_not, ← fin_iff t]
  show ¬(!(k0_cond2 (grid0.coords t) == 1#1)) = true ↔ _
  simp

theorem leaves_out_mid (c : Dev nD) (t : Fin cfg0.N) (h : t.val ≠ 7) :
    (dats m 0 c).leavesExact 2 t = iprop(∃ d, owns (c : Thread nD τ) (win0_2.stage (cfg0.slots t 2)) fullShare ((dats m 0 c).before 2 t d)) :=
  (dats m 0 c).leavesExact_idle 2 t ((idle_iff t).mpr h) (by
    have := N_eq; have := t.isLt
    rw [← Bool.not_eq_true, flush0_2]; omega)

theorem leaves_out_last (c : Dev nD) (t : Fin cfg0.N) (h : t.val = 7) :
    (dats m 0 c).leavesExact 2 t = owns (c : Thread nD τ) (win0_2.stage (cfg0.slots t 2)) fullShare (outAt m c t) := by
  have hi : cfg0.idle 2 (cfg0.grid.coords t) = false := by
    rw [← Bool.not_eq_true, idle_iff]; omega
  unfold Dat.leavesExact
  rw [hi]
  rfl

/-! ## The body at a point -/

theorem between_pos (c : Dev nD) (n : ℕ) (h : n ≤ cfg0.N) (hz : n ≠ 0) :
    between m c n h = iprop((owns (c : Thread nD τ) accI fullShare (accAt m c n h).1 ∗ owns (c : Thread nD τ) accU fullShare (accAt m c n h).2)
      ∗ (∃ r, prngReg c r)) := by
  cases n with
  | zero => exact absurd rfl hz
  | succ n => rfl

theorem body_triple (c : Dev nD) (t : Fin cfg0.N) :
    iprop((dats m 0 c).Φ t.castSucc ∗ (dats m 0 c).owesAt () t.castSucc
        ∗ (∃ d, owns (c : Thread nD τ) (win0_0.stage (cfg0.slots t 0)) fullShare ((dats m 0 c).before 0 t d))
        ∗ (∃ d, owns (c : Thread nD τ) (win0_1.stage (cfg0.slots t 1)) fullShare ((dats m 0 c).before 1 t d))
        ∗ (∃ d, owns (c : Thread nD τ) (win0_2.stage (cfg0.slots t 2)) fullShare ((dats m 0 c).before 2 t d)))
      ⊢ wp frame (wpE (defs₀ (F := F)) Variants.none c none) Set.univ (bodyAt0 t) (fun _ =>
        iprop((dats m 0 c).Φ t.succ ∗ (dats m 0 c).owesAt () t.succ
          ∗ (dats m 0 c).leavesExact 0 t ∗ (dats m 0 c).leavesExact 1 t ∗ (dats m 0 c).leavesExact 2 t)) := by
  unfold bodyAt0
  simp only [before_pred, before_tgt, leaves_pred, leaves_tgt]
  rw [body_eq, show (dats m 0 c).owesAt () t.succ = (dats m 0 c).owesAt () t.castSucc from rfl,
    show (dats m 0 c).Φ t.succ = between m c (t.val + 1) t.isLt from rfl, between_pos m c (t.val + 1) _ (Nat.succ_ne_zero _),
    show (dats m 0 c).Φ t.castSucc = between m c t.val (Nat.le_of_lt t.isLt) from rfl]
  have hA : accAt m c (t.val + 1) t.isLt = Iou.sampleStep (predBlk m c t) (tgtBlk m c t) (accAt m c t.val (Nat.le_of_lt t.isLt)) := rfl
  by_cases h7 : t.val = 7
  · have h0 : t.val ≠ 0 := by omega
    rw [leaves_out_last m c t h7, between_pos m c t.val _ h0]
    unfold outAt
    rw [hA]
    iintro ⟨⟨⟨HI, HU⟩, Hg⟩, Ho, ⟨%d0, H0⟩, ⟨%d1, H1⟩, ⟨%d2, H2⟩⟩
    iapply Iou.wp_bodyP_last (P := predBlk m c t) (T := tgtBlk m c t) (accAt m c t.val (Nat.le_of_lt t.isLt)) ((dats m 0 c).before 2 t d2)
      (init0 (grid0.coords t)) (k0_cond2 (grid0.coords t)) (fun h => h0 ((init_iff t).mp h)) ((fin_iff t).mpr h7)
    unfold Iou.held
    isplitl [H0 H1 HI HU]
    · isplitl [H0]; · iexact H0
      isplitl [H1]; · iexact H1
      isplitl [HI]; · iexact HI
      iexact HU
    isplitl [H2]; · iexact H2
    iintro ⟨⟨H0, H1, HI, HU⟩, H2⟩
    isplitl [HI HU Hg]
    · isplitl [HI HU]
      · isplitl [HI]; · iexact HI
        iexact HU
      iexact Hg
    isplitl [Ho]; · iexact Ho
    isplitl [H0]; · iexact H0
    isplitl [H1]; · iexact H1
    iexact H2
  · have step : ∀ (A : FVec F Iou.SA .f32 × FVec F Iou.SA .f32),
        (if init0 (grid0.coords t) = 1#1 then (Iou.zeros, Iou.zeros) else A) = accAt m c t.val (Nat.le_of_lt t.isLt) →
        iprop(((owns (Val := Elt F) (c : Thread nD τ) accI fullShare A.1 ∗ owns (Val := Elt F) (c : Thread nD τ) accU fullShare A.2) ∗ (∃ r, prngReg c r))
          ∗ (dats m 0 c).owesAt () t.castSucc
          ∗ (∃ d : S1x21x512x512.Idx → Elt F .f32, owns (c : Thread nD τ) (win0_0.stage (cfg0.slots t 0)) fullShare (predBlk m c t))
          ∗ (∃ d : S1x512x512.Idx → Elt F .i32, owns (c : Thread nD τ) (win0_1.stage (cfg0.slots t 1)) fullShare (tgtBlk m c t))
          ∗ (∃ d, owns (c : Thread nD τ) (win0_2.stage (cfg0.slots t 2)) fullShare ((dats m 0 c).before 2 t d)))
        ⊢ wp frame (wpE (defs₀ (F := F)) Variants.none c none) Set.univ
          (Iou.bodyP (win0_0.stage (cfg0.slots t 0)) (win0_1.stage (cfg0.slots t 1)) (win0_2.stage (cfg0.slots t 2)) accI accU
            (init0 (grid0.coords t)) (k0_cond2 (grid0.coords t))) (fun _ =>
          iprop(((owns (c : Thread nD τ) accI fullShare (accAt m c (t.val + 1) t.isLt).1 ∗ owns (c : Thread nD τ) accU fullShare (accAt m c (t.val + 1) t.isLt).2)
              ∗ (∃ r, prngReg c r))
            ∗ (dats m 0 c).owesAt () t.castSucc
            ∗ owns (c : Thread nD τ) (win0_0.stage (cfg0.slots t 0)) fullShare (predBlk m c t)
            ∗ owns (c : Thread nD τ) (win0_1.stage (cfg0.slots t 1)) fullShare (tgtBlk m c t)
            ∗ (∃ d, owns (c : Thread nD τ) (win0_2.stage (cfg0.slots t 2)) fullShare ((dats m 0 c).before 2 t d)))) := by
      intro A hAt
      rw [hA, ← hAt]
      iintro ⟨⟨⟨HI, HU⟩, Hg⟩, Ho, ⟨%d0, H0⟩, ⟨%d1, H1⟩, H2⟩
      iapply Iou.wp_bodyP_mid (P := predBlk m c t) (T := tgtBlk m c t) A (init0 (grid0.coords t)) (k0_cond2 (grid0.coords t))
        (fun h => h7 ((fin_iff t).mp h))
      unfold Iou.held
      isplitl [H0 H1 HI HU]
      · isplitl [H0]; · iexact H0
        isplitl [H1]; · iexact H1
        isplitl [HI]; · iexact HI
        iexact HU
      iintro ⟨H0, H1, HI, HU⟩
      isplitl [HI HU Hg]
      · isplitl [HI HU]
        · isplitl [HI]; · iexact HI
          iexact HU
        iexact Hg
      isplitl [Ho]; · iexact Ho
      isplitl [H0]; · iexact H0
      isplitl [H1]; · iexact H1
      iexact H2
    rw [leaves_out_mid m c t h7]
    by_cases h0 : t.val = 0
    · have e1 : between m c t.val (Nat.le_of_lt t.isLt) = Pipeline.ΦA spec0 c := by
        obtain ⟨n, hn⟩ := t
        subst h0; rfl
      have e2 : accAt m c t.val (Nat.le_of_lt t.isLt) = (Iou.zeros, Iou.zeros) := by
        obtain ⟨n, hn⟩ := t
        subst h0; rfl
      rw [e1, entry_eq]
      iintro ⟨⟨⟨⟨%x, HI⟩, ⟨%y, HU⟩⟩, Hg⟩, HR⟩
      iapply step (x, y) (by rw [if_pos ((init_iff t).mpr h0), e2])
      isplitl [HI HU Hg]
      · isplitl [HI HU]
        · isplitl [HI]; · iexact HI
          iexact HU
        iexact Hg
      iexact HR
    · rw [between_pos m c t.val _ h0]
      exact step _ (if_neg fun h => h0 ((init_iff t).mp h))

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (body_triple m c t) rfl .rfl fun _ => .rfl

theorem enter (c : Dev nD) : Pipeline.ΦA spec0 c ⊢ (dats m 0 c).Φ 0 := .rfl

theorem leave (c : Dev nD) : (dats m 0 c).Φ (Fin.last cfg0.N) ⊢ Pipeline.ΦA spec0 c := by
  rw [show (dats m 0 c).Φ (Fin.last cfg0.N) = between m c cfg0.N le_rfl from rfl, between_pos m c _ _ (by rw [N_eq]; decide), entry_eq]
  iintro ⟨⟨HI, HU⟩, Hg⟩
  isplitl [HI HU]
  · isplitl [HI]
    · iexists _; iexact HI
    iexists _; iexact HU
  iexact Hg

/-! ## The lines after the call -/

theorem tail_mem {ops : List (HloOp τ sig (Elt F))} (h : ops ∈ ([hostOps1] : List (List (HloOp τ sig (Elt F))))) : ops = hostOps1 := by
  simpa using h

theorem tail_fresh : ∀ op ∈ (hostOps1 : List (HloOp τ sig (Elt F))), op.fresh = ∅ := by
  intro op h
  simp only [hostOps1, List.mem_cons, List.mem_nil_iff, or_false] at h
  rcases h with rfl | rfl <;> rfl

theorem tail_keeps : ∀ op ∈ (hostOps1 : List (HloOp τ sig (Elt F))), ∀ w, Proc.devRef .tc (Pipeline.arrRef spec0 w) ∉ op.writes := by
  intro op h w
  simp only [hostOps1, List.mem_cons, List.mem_nil_iff, or_false] at h
  rcases h with rfl | rfl <;> fin_cases w <;>
    simp only [StableHlo.unary_writes, StableHlo.reshape_writes, Finset.mem_singleton] <;> exact StableHlo.devRef_ne_of_ne (by decide)

/-! ## The run -/

set_option backward.isDefEq.respectTransparency.types false in
set_option maxHeartbeats 800000 in
theorem run : θ_run defs (onTc (τ := τ) (main (F := F))) (s₀ m ρ) (fun r =>
    Pipeline.FramePost cfgs (dats m) (0 : Fin 1) (Pipeline.afterTail₀ cfgs (dats m) (0 : Fin 1) (start m) [hostOps1]) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := start m) (opss := [hostOps1])
    (hsub := fun ops h op ho => by
      rw [Pipeline.tailRefs_none spec0 launch0.win.arr_unscoped]
      rw [tail_mem h] at ho
      exact Pipeline.sub_ucRefs op ((List.forall_iff_forall_mem.mp hostOps1_sub) op ho))
    (hfresh := fun ops h op ho => tail_fresh op (tail_mem h ▸ ho))
    (hkeep := fun ops h op ho => tail_keeps op (tail_mem h ▸ ho))
    (hmain := Pipeline.hmain_around cfgs 0 defs₀ Variants.none m main [] [hostOps1] (by simp only [List.Forall]) (by simp only [List.Forall]) main_chain)
    (hA := fun _ _ => rfl) (hin := enter m) (hout := leave m)

/-! ## What the run leaves -/

/-- The last sample's point. -/
def final : Fin cfg0.N := ⟨7, by rw [N_eq]; decide⟩

/-- The output's one block is its whole array. -/
theorem out_emb (t : Fin cfg0.N) (j : S8x128.Idx) : ((cfg0.win 2).blk t).view.emb j = j := by
  funext a
  apply Fin.ext
  refine (Pipeline.Window.rect_emb_val win0_2 t j a).trans ?_
  fin_cases a <;> simp [Pipeline.Window.index, win0_2] <;> rfl

/-- What the output's array holds at the end. -/
theorem out_arr (c : Dev nD) : (dats m (0 : Fin 1) c).arrAt 2 cfg0.N = outAt m c final := by
  refine (dats m (0 : Fin 1) c).arrAt_eq_of_cover 2 (outAt m c final) (fun t ht => ?_) (fun i => ⟨final, (flush0_2 _).mpr rfl, ?_⟩)
  · have e : t = final := by
      apply Fin.ext
      have := (flush0_2 t).mp ht; have := t.isLt; have := N_eq
      show t.val = 7
      omega
    subst e
    funext j
    show outAt m c final j = outAt m c final (((cfg0.win 2).blk final).view.emb j)
    rw [out_emb]
  · have h := ((cfg0.win 2).blk final).view.emb_mem_set i
    rwa [out_emb] at h

/-- The one number the two last operations read off the output. -/
def scalar (b : FVec F Iou.SO .f32) : FVec F S_ .f32 :=
  shapeCast S_ (extractStridedSlice S1x1 ![0, 0] b Gen.slices_S8x128_S1x1_0_0) Gen.shapeCasts_S1x1_S_

theorem tail_value (c : Dev nD) : Pipeline.afterTail₀ cfgs (dats m) (0 : Fin 1) (start m) [hostOps1] c main_v2 = scalar (outAt m c final) := by
  unfold Pipeline.afterTail₀
  simp only [List.flatten_cons, List.flatten_nil, List.append_nil]
  rw [← out_arr m c]
  have e := Pipeline.withArrays_arr (Val := Elt F) spec0 launch0.win.arr_inj c (start m c) (fun w => (dats m (0 : Fin 1) c).arrAt w cfg0.N) 2
  rw [← e]
  unfold scalar
  simp only [StableHlo.after_cons, StableHlo.after_nil]
  after_results_simp
  rfl

theorem ends : θ_run defs (onTc (τ := τ) (main (F := F))) (s₀ m ρ) (fun r =>
    (∀ c : Dev nD, r.2.mem ((c.tc : Thread nD τ).loc main_v2) = scalar (outAt m c final)
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) := by
  refine (θ_run defs _ _).mono ?_ (run m ρ)
  intro r h
  refine ⟨fun c => ⟨?_, ?_, ?_⟩, h.2⟩
  · exact ((h.1 c).2 main_v2 (by decide)).trans (tail_value m c)
  · exact ((h.1 c).1 0).trans (((dats m (0 : Fin 1) c).arrAt_in 0 rfl _).trans rfl)
  · exact ((h.1 c).1 1).trans (((dats m (0 : Fin 1) c).arrAt_in 1 rfl _).trans rfl)

end Cert.KernelIdeal

end
-- ==== Proof.RefRun.lean ====
/- The reference: its side conditions, its operations in order, and its run to what they leave in every buffer. -/
module

public import proofs.«01_k».proof.ReferenceIdeal
public import Idealize.ShloMosaic.Lib.StableHlo.RunHlo
public import Idealize.ShloMosaic.Lib.StableHlo.RunRead
public import Idealize.ShloMosaic.Lib.Quiescent

@[expose] public section

set_option maxRecDepth 16384

noncomputable section

namespace Cert.ReferenceIdeal

open Idealize.ShloMosaic Idealize.ShloMosaic.TcCoe Idealize.SL.Sem
open Idealize.ShloMosaic.StableHlo (IsSeq seq)
open Facts₀ Facts

theorem facts₀ : Facts₀ where
  reducesTo_S8x21x512x512_S8x512x512_d1 := by decide
  h_S_ := by decide
  bcast_S_S8x512x512 := by decide
  bcast_S8x512x512_S8x1x512x512_0_2_3 := by decide
  bcast_S8x1x512x512_S8x21x512x512_0_1_2_3 := by decide
  shapeCasts_S8x512x512_S2097152 := by decide
  bcast_S_S21 := by decide
  bcast_S_S2097152 := by decide
  bcast_S2097152_S2097152x1_0 := by decide
  bcast_S_S22 := by decide
  slices_S22_S21_0 := by decide
  reducesTo_S21_S_d0 := by decide
  scatter_S21_S2097152x1_S2097152_n_0_0_1_wf := by decide
  scatter_S22_S2097152x1_S2097152_n_0_0_1_wf := by decide

theorem facts : Facts where
  toFacts₀ := facts₀

variable {F : FTy → Type} [FloatOps F] [Facts]

/-- One line after another is the line of both. -/
theorem seq_then {p k : Prog (TpuEff nD τ sig (Elt F) (Pipeline.Sig Λ₀ (Fin 0) fun p => (pcfgs (F := F) p).Adm) .tc) PUnit}
    {a b : List (HloOp τ sig (Elt F))} (h : IsSeq p a) (h' : IsSeq k b) : IsSeq (p >>= fun _ => k) (a ++ b) := by
  unfold IsSeq at h h' ⊢
  rw [h, h', StableHlo.seq_append]

/-- One operation with nothing after it. -/
theorem seq_one {op : HloOp τ sig (Elt F)} :
    IsSeq ((hlo rfl op fun _ => .ret (⟨⟩ : PUnit)) : Prog (TpuEff nD τ sig (Elt F) (Pipeline.Sig Λ₀ (Fin 0) fun p => (pcfgs (F := F) p).Adm) .tc) PUnit) [op] := rfl

/-- The operations of the reference, in order. -/
def line : { ops : List (HloOp τ sig (Elt F)) // ∀ d, IsSeq (main (F := F) d) ops } := by
  apply Subtype.mk
  intro d
  unfold main main_part0 main_part1
  unfold fn_argmax.body fn_clip.body fn_where.body
  repeat' first
    | exact IsSeq.nil
    | exact seq_one
    | apply IsSeq.cons
    | apply seq_then

variable (m : (ℓ : Loc nD τ sig) → Buf (Elt F) ℓ) (ρ : Dev nD → PrngReg)

/-- Every buffer of a core ends at what the line leaves of the launch contents. -/
theorem run : θ_run defs (onTc (τ := τ) (main (F := F))) ⟨m, fun _ => 0, ρ⟩ fun r =>
    ∀ (d : Dev nD) (b : Ref sig .tc), r.2.mem ((d.tc : Thread nD τ).loc b)
      = StableHlo.after (line (F := F)).1 (StableHlo.launchContents m d) (Proc.devRef .tc b) :=
  StableHlo.run_hlo defs main line.2 (by decide) (by decide) (by simp [line])
    (List.forall_iff_forall_mem.mp (by simp only [line, List.forall_append, List.forall_cons, List.Forall]; and_intros <;> rfl)) m ρ

/-! ## The value, stage by stage -/

/-- A per-pixel array repeated over the classes. -/
def overClasses (y : FVec F S8x512x512 .f32) : FVec F S8x21x512x512 .f32 :=
  broadcastInDim S8x21x512x512 ![0, 1, 2, 3] bcast_S8x1x512x512_S8x21x512x512_0_1_2_3
    (broadcastInDim S8x1x512x512 ![0, 2, 3] bcast_S8x512x512_S8x1x512x512_0_2_3 y)

/-- The greatest score of each pixel, as the reference takes it. -/
def peak (x : FVec F S8x21x512x512 .f32) : FVec F S8x512x512 .f32 :=
  maximumf (broadcastInDim S8x512x512 ![] bcast_S_S8x512x512 (constant (F := F) S_ .f32 0xFF800000#32))
    (Host.reduce FloatOps.maximumf x (constant (F := F) S_ .f32 0xFF800000#32) reducesTo_S8x21x512x512_S8x512x512_d1 h_S_)

/-- The exponentials of the scores less the peak. -/
def raised (x : FVec F S8x21x512x512 .f32) : FVec F S8x21x512x512 .f32 := Host.exp (subf x (overClasses (peak x)))

/-- The softmax over the classes. -/
def softmax (x : FVec F S8x21x512x512 .f32) : FVec F S8x21x512x512 .f32 :=
  Host.divf (raised x)
    (overClasses (Host.reduceAdd (raised x) (constant (F := F) S_ .f32 0x00000000#32) reducesTo_S8x21x512x512_S8x512x512_d1 h_S_))

/-- The predicted class of each pixel. -/
def predicted (p : FVec F S8x21x512x512 .f32) : IVec S8x512x512 32 := fun j =>
  (Host.argReduce reducer_argmax_f32_i32 p (iotaInDim S8x21x512x512 32 1) (constant (F := F) S_ .f32 0xFF800000#32) (constantI S_ 32 0#32)
    reducesTo_S8x21x512x512_S8x512x512_d1 h_S_ j).2

/-- A word over every pixel. -/
def everyPixel (w : BitVec 32) : IVec S2097152 32 := broadcastInDim S2097152 ![] bcast_S_S2097152 (constantI S_ 32 w)

/-- The bins a list of labels counts into: below 0 is class 0, and a negative index would wrap by `n`. -/
def binOf (n : BitVec 32) (l : IVec S2097152 32) : IVec S2097152x1 32 :=
  broadcastInDim S2097152x1 ![0] bcast_S2097152_S2097152x1_0
    (select (cmpi .slt (maxsi (everyPixel 0#32) l) (everyPixel 0#32)) (addi (maxsi (everyPixel 0#32) l) (everyPixel n)) (maxsi (everyPixel 0#32) l))

/-- How many labels fall on each of the 21 classes. -/
def count (l : IVec S2097152 32) : IVec S21 32 :=
  Host.scatter scatter_S21_S2097152x1_S2097152_n_0_0_1 IntOp.addi (broadcastInDim S21 ![] bcast_S_S21 (constantI S_ 32 0#32))
    (binOf 21#32 l) (everyPixel 1#32)

/-- The same with one bin more for what counts nowhere. -/
def countMore (l : IVec S2097152 32) : IVec S22 32 :=
  Host.scatter scatter_S22_S2097152x1_S2097152_n_0_0_1 IntOp.addi (broadcastInDim S22 ![] bcast_S_S22 (constantI S_ 32 0#32))
    (binOf 22#32 l) (everyPixel 1#32)

/-- The label of a pixel predicted right, and 21 elsewhere. -/
def agreed (p t : IVec S2097152 32) : IVec S2097152 32 := select (cmpi .eq p t) p (everyPixel 21#32)

/-- The small number added above and below. -/
def tiny : FVec F S21 .f32 := broadcastInDim S21 ![] bcast_S_S21 (constant (F := F) S_ .f32 0x358637BD#32)

/-- The counts of pixels predicted right, as floats. -/
def common (b : IVec S22 32) : FVec F S21 .f32 := sitofp .f32 (extractStridedSlice S21 ![0] b slices_S22_S21_0)

/-- The mean over the classes of intersection over union, from the three counts. -/
def meanIou (p t : IVec S21 32) (b : IVec S22 32) : FVec F S_ .f32 :=
  Host.divf
    (Host.reduceAdd
      (Host.divf (addf (common b) tiny) (addf (subf (sitofp .f32 (addi p t)) (common b)) tiny))
      (constant (F := F) S_ .f32 0x00000000#32) reducesTo_S21_S_d0 h_S_)
    (constant (F := F) S_ .f32 0x41A80000#32)

/-- An array of one word per pixel, listed. -/
def listed (l : IVec S8x512x512 32) : IVec S2097152 32 := shapeCast S2097152 l shapeCasts_S8x512x512_S2097152

/-- The reference's result from its arguments. -/
def result (x : FVec F S8x21x512x512 .f32) (t : IVec S8x512x512 32) : FVec F S_ .f32 :=
  meanIou (count (listed (predicted (softmax x)))) (count (listed t)) (countMore (agreed (listed (predicted (softmax x))) (listed t)))

/-! ## The line in pieces, each as long as one stage -/

def softmaxOps : { l : List (HloOp τ sig (Elt F)) // l = ((line (F := F)).1.drop 0).take 14 } := by
  apply Subtype.mk
  conv_rhs => simp only [line, List.cons_append, List.nil_append, List.append_nil, List.drop_succ_cons, List.drop_zero, List.take_succ_cons, List.take_zero]

def argmaxOps : { l : List (HloOp τ sig (Elt F)) // l = ((line (F := F)).1.drop 14).take 5 } := by
  apply Subtype.mk
  conv_rhs => simp only [line, List.cons_append, List.nil_append, List.append_nil, List.drop_succ_cons, List.drop_zero, List.take_succ_cons, List.take_zero]

def listOps : { l : List (HloOp τ sig (Elt F)) // l = ((line (F := F)).1.drop 19).take 2 } := by
  apply Subtype.mk
  conv_rhs => simp only [line, List.cons_append, List.nil_append, List.append_nil, List.drop_succ_cons, List.drop_zero, List.take_succ_cons, List.take_zero]

def predOps : { l : List (HloOp τ sig (Elt F)) // l = ((line (F := F)).1.drop 21).take 17 } := by
  apply Subtype.mk
  conv_rhs => simp only [line, List.cons_append, List.nil_append, List.append_nil, List.drop_succ_cons, List.drop_zero, List.take_succ_cons, List.take_zero]

def tgtOps : { l : List (HloOp τ sig (Elt F)) // l = ((line (F := F)).1.drop 38).take 17 } := by
  apply Subtype.mk
  conv_rhs => simp only [line, List.cons_append, List.nil_append, List.append_nil, List.drop_succ_cons, List.drop_zero, List.take_succ_cons, List.take_zero]

def agreeOps : { l : List (HloOp τ sig (Elt F)) // l = ((line (F := F)).1.drop 55).take 5 } := by
  apply Subtype.mk
  conv_rhs => simp only [line, List.cons_append, List.nil_append, List.append_nil, List.drop_succ_cons, List.drop_zero, List.take_succ_cons, List.take_zero]

def bothOps : { l : List (HloOp τ sig (Elt F)) // l = ((line (F := F)).1.drop 60).take 17 } := by
  apply Subtype.mk
  conv_rhs => simp only [line, List.cons_append, List.nil_append, List.append_nil, List.drop_succ_cons, List.drop_zero, List.take_succ_cons, List.take_zero]

def meanOps : { l : List (HloOp τ sig (Elt F)) // l = ((line (F := F)).1.drop 77).take 16 } := by
  apply Subtype.mk
  conv_rhs => simp only [line, List.cons_append, List.nil_append, List.append_nil, List.drop_succ_cons, List.drop_zero, List.take_succ_cons, List.take_zero]

theorem line_pieces : (line (F := F)).1 = softmaxOps.1 ++ (argmaxOps.1 ++ (listOps.1 ++ (predOps.1 ++ (tgtOps.1 ++ (agreeOps.1 ++ (bothOps.1 ++ meanOps.1)))))) := by
  rw [softmaxOps.2, argmaxOps.2, listOps.2, predOps.2, tgtOps.2, agreeOps.2, bothOps.2, meanOps.2]
  rfl

theorem after_append (a b : List (HloOp τ sig (Elt F))) (V : Valuation τ sig (Elt F)) :
    StableHlo.after (a ++ b) V = StableHlo.after b (StableHlo.after a V) := by
  induction a generalizing V with
  | nil => rfl
  | cons op a ih => exact ih _

variable (V : Valuation τ sig (Elt F))

theorem softmaxOps_arg0 : StableHlo.after (softmaxOps (F := F)).1 V (Proc.devRef .tc main_arg0) = V (Proc.devRef .tc main_arg0) := by
  unfold softmaxOps; after_reads_simp

theorem softmaxOps_arg1 : StableHlo.after (softmaxOps (F := F)).1 V (Proc.devRef .tc main_arg1) = V (Proc.devRef .tc main_arg1) := by
  unfold softmaxOps; after_reads_simp

theorem softmaxOps_v10 : StableHlo.after (softmaxOps (F := F)).1 V (Proc.devRef .tc main_v10) = softmax (V (Proc.devRef .tc main_arg0)) := by
  unfold softmaxOps; after_reads_simp
  try simp -implicitDefEqProofs only [StableHlo.TRef.toBuf, StableHlo.TRef.ofBuf, cast_cast, cast_eq]
  rfl

theorem argmaxOps_arg0 : StableHlo.after (argmaxOps (F := F)).1 V (Proc.devRef .tc main_arg0) = V (Proc.devRef .tc main_arg0) := by
  unfold argmaxOps; after_reads_simp

theorem argmaxOps_arg1 : StableHlo.after (argmaxOps (F := F)).1 V (Proc.devRef .tc main_arg1) = V (Proc.devRef .tc main_arg1) := by
  unfold argmaxOps; after_reads_simp

theorem argmaxOps_v11 : StableHlo.after (argmaxOps (F := F)).1 V (Proc.devRef .tc main_v11) = predicted (V (Proc.devRef .tc main_v10)) := by
  unfold argmaxOps; after_reads_simp
  try simp -implicitDefEqProofs only [StableHlo.TRef.toBuf, StableHlo.TRef.ofBuf, cast_cast, cast_eq]
  rfl

theorem listOps_arg0 : StableHlo.after (listOps (F := F)).1 V (Proc.devRef .tc main_arg0) = V (Proc.devRef .tc main_arg0) := by
  unfold listOps; after_reads_simp

theorem listOps_arg1 : StableHlo.after (listOps (F := F)).1 V (Proc.devRef .tc main_arg1) = V (Proc.devRef .tc main_arg1) := by
  unfold listOps; after_reads_simp

theorem listOps_v12 : StableHlo.after (listOps (F := F)).1 V (Proc.devRef .tc main_v12) = listed (V (Proc.devRef .tc main_v11)) := by
  unfold listOps; after_reads_simp
  try simp -implicitDefEqProofs only [StableHlo.TRef.toBuf, StableHlo.TRef.ofBuf, cast_cast, cast_eq]
  rfl

theorem listOps_v13 : StableHlo.after (listOps (F := F)).1 V (Proc.devRef .tc main_v13) = listed (V (Proc.devRef .tc main_arg1)) := by
  unfold listOps; after_reads_simp
  try simp -implicitDefEqProofs only [StableHlo.TRef.toBuf, StableHlo.TRef.ofBuf, cast_cast, cast_eq]
  rfl

theorem predOps_arg0 : StableHlo.after (predOps (F := F)).1 V (Proc.devRef .tc main_arg0) = V (Proc.devRef .tc main_arg0) := by
  unfold predOps; after_reads_simp

theorem predOps_arg1 : StableHlo.after (predOps (F := F)).1 V (Proc.devRef .tc main_arg1) = V (Proc.devRef .tc main_arg1) := by
  unfold predOps; after_reads_simp

theorem predOps_v12 : StableHlo.after (predOps (F := F)).1 V (Proc.devRef .tc main_v12) = V (Proc.devRef .tc main_v12) := by
  unfold predOps; after_reads_simp

theorem predOps_v13 : StableHlo.after (predOps (F := F)).1 V (Proc.devRef .tc main_v13) = V (Proc.devRef .tc main_v13) := by
  unfold predOps; after_reads_simp

theorem predOps_v23 : StableHlo.after (predOps (F := F)).1 V (Proc.devRef .tc main_v23) = count (V (Proc.devRef .tc main_v12)) := by
  unfold predOps; after_reads_simp
  try simp -implicitDefEqProofs only [StableHlo.TRef.toBuf, StableHlo.TRef.ofBuf, cast_cast, cast_eq]
  rfl

theorem tgtOps_arg0 : StableHlo.after (tgtOps (F := F)).1 V (Proc.devRef .tc main_arg0) = V (Proc.devRef .tc main_arg0) := by
  unfold tgtOps; after_reads_simp

theorem tgtOps_arg1 : StableHlo.after (tgtOps (F := F)).1 V (Proc.devRef .tc main_arg1) = V (Proc.devRef .tc main_arg1) := by
  unfold tgtOps; after_reads_simp

theorem tgtOps_v12 : StableHlo.after (tgtOps (F := F)).1 V (Proc.devRef .tc main_v12) = V (Proc.devRef .tc main_v12) := by
  unfold tgtOps; after_reads_simp

theorem tgtOps_v13 : StableHlo.after (tgtOps (F := F)).1 V (Proc.devRef .tc main_v13) = V (Proc.devRef .tc main_v13) := by
  unfold tgtOps; after_reads_simp

theorem tgtOps_v23 : StableHlo.after (tgtOps (F := F)).1 V (Proc.devRef .tc main_v23) = V (Proc.devRef .tc main_v23) := by
  unfold tgtOps; after_reads_simp

theorem tgtOps_v33 : StableHlo.after (tgtOps (F := F)).1 V (Proc.devRef .tc main_v33) = count (V (Proc.devRef .tc main_v13)) := by
  unfold tgtOps; after_reads_simp
  try simp -implicitDefEqProofs only [StableHlo.TRef.toBuf, StableHlo.TRef.ofBuf, cast_cast, cast_eq]
  rfl

theorem agreeOps_arg0 : StableHlo.after (agreeOps (F := F)).1 V (Proc.devRef .tc main_arg0) = V (Proc.devRef .tc main_arg0) := by
  unfold agreeOps; after_reads_simp

theorem agreeOps_arg1 : StableHlo.after (agreeOps (F := F)).1 V (Proc.devRef .tc main_arg1) = V (Proc.devRef .tc main_arg1) := by
  unfold agreeOps; after_reads_simp

theorem agreeOps_v23 : StableHlo.after (agreeOps (F := F)).1 V (Proc.devRef .tc main_v23) = V (Proc.devRef .tc main_v23) := by
  unfold agreeOps; after_reads_simp

theorem agreeOps_v33 : StableHlo.after (agreeOps (F := F)).1 V (Proc.devRef .tc main_v33) = V (Proc.devRef .tc main_v33) := by
  unfold agreeOps; after_reads_simp

theorem agreeOps_v35 : StableHlo.after (agreeOps (F := F)).1 V (Proc.devRef .tc main_v35) = agreed (V (Proc.devRef .tc main_v12)) (V (Proc.devRef .tc main_v13)) := by
  unfold agreeOps; after_reads_simp
  try simp -implicitDefEqProofs only [StableHlo.TRef.toBuf, StableHlo.TRef.ofBuf, cast_cast, cast_eq]
  rfl

theorem bothOps_arg0 : StableHlo.after (bothOps (F := F)).1 V (Proc.devRef .tc main_arg0) = V (Proc.devRef .tc main_arg0) := by
  unfold bothOps; after_reads_simp

theorem bothOps_arg1 : StableHlo.after (bothOps (F := F)).1 V (Proc.devRef .tc main_arg1) = V (Proc.devRef .tc main_arg1) := by
  unfold bothOps; after_reads_simp

theorem bothOps_v23 : StableHlo.after (bothOps (F := F)).1 V (Proc.devRef .tc main_v23) = V (Proc.devRef .tc main_v23) := by
  unfold bothOps; after_reads_simp

theorem bothOps_v33 : StableHlo.after (bothOps (F := F)).1 V (Proc.devRef .tc main_v33) = V (Proc.devRef .tc main_v33) := by
  unfold bothOps; after_reads_simp

theorem bothOps_v45 : StableHlo.after (bothOps (F := F)).1 V (Proc.devRef .tc main_v45) = countMore (V (Proc.devRef .tc main_v35)) := by
  unfold bothOps; after_reads_simp
  try simp -implicitDefEqProofs only [StableHlo.TRef.toBuf, StableHlo.TRef.ofBuf, cast_cast, cast_eq]
  rfl

theorem meanOps_arg0 : StableHlo.after (meanOps (F := F)).1 V (Proc.devRef .tc main_arg0) = V (Proc.devRef .tc main_arg0) := by
  unfold meanOps; after_reads_simp

theorem meanOps_arg1 : StableHlo.after (meanOps (F := F)).1 V (Proc.devRef .tc main_arg1) = V (Proc.devRef .tc main_arg1) := by
  unfold meanOps; after_reads_simp

theorem meanOps_v57 : StableHlo.after (meanOps (F := F)).1 V (Proc.devRef .tc main_v57) = meanIou (V (Proc.devRef .tc main_v23)) (V (Proc.devRef .tc main_v33)) (V (Proc.devRef .tc main_v45)) := by
  unfold meanOps; after_reads_simp
  try simp -implicitDefEqProofs only [StableHlo.TRef.toBuf, StableHlo.TRef.ofBuf, cast_cast, cast_eq]
  rfl

/-! ## What the reference ends holding -/

theorem after_arg0 : StableHlo.after (line (F := F)).1 V (Proc.devRef .tc main_arg0) = V (Proc.devRef .tc main_arg0) := by
  simp only [line_pieces, after_append]
  rw [meanOps_arg0, bothOps_arg0, agreeOps_arg0, tgtOps_arg0, predOps_arg0, listOps_arg0, argmaxOps_arg0, softmaxOps_arg0]

theorem after_arg1 : StableHlo.after (line (F := F)).1 V (Proc.devRef .tc main_arg1) = V (Proc.devRef .tc main_arg1) := by
  simp only [line_pieces, after_append]
  rw [meanOps_arg1, bothOps_arg1, agreeOps_arg1, tgtOps_arg1, predOps_arg1, listOps_arg1, argmaxOps_arg1, softmaxOps_arg1]

theorem after_v57 : StableHlo.after (line (F := F)).1 V (Proc.devRef .tc main_v57)
    = result (V (Proc.devRef .tc main_arg0)) (V (Proc.devRef .tc main_arg1)) := by
  simp only [line_pieces, after_append]
  rw [meanOps_v57, bothOps_v45, bothOps_v23, bothOps_v33, agreeOps_v35, agreeOps_v23, agreeOps_v33, tgtOps_v33, tgtOps_v23, tgtOps_v12, tgtOps_v13,
    predOps_v23, predOps_v12, predOps_v13, listOps_v12, listOps_v13, argmaxOps_v11, argmaxOps_arg1, softmaxOps_v10, softmaxOps_arg1]
  rfl

/-- The run, at the arguments and the result. -/
theorem ends : θ_run defs (onTc (τ := τ) (main (F := F))) ⟨m, fun _ => 0, ρ⟩ fun r =>
    (∀ c : Dev nD, r.2.mem ((c.tc : Thread nD τ).loc main_v57) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0 := by
  refine θ_run_mono (run m ρ) fun r h => ⟨fun c => ⟨?_, ?_, ?_⟩, sem_eq_zero_of_no_sems (by decide) _⟩
  · rw [h c, after_v57]
  · rw [h c, after_arg0]
  · rw [h c, after_arg1]

end Cert.ReferenceIdeal

end
-- ==== Proof.Pre.lean ====
/- What the precondition says at one pixel: a class whose score is the strict greatest, that score finite, and a label
   that is not negative. -/
module

public import proofs.«01_k».proof.Pre_no_tie
public import Idealize.ShloMosaic.PureOps.Ideal.Laws
public import Idealize.ShloMosaic.Lib.StableHlo.Predicate
public import Idealize.ShloMosaic.Lib.Pointwise.Index
public import Idealize.ShloMosaic.Lib.Pipeline.Value

@[expose] public section

set_option maxRecDepth 16384

noncomputable section

namespace Cert.Iou

open Idealize.ShloMosaic Idealize.ShloMosaic.StableHlo.Predicate

/-- The scores of a batch, -/
abbrev SX : Shape := ⟨4, ![8, 21, 512, 512]⟩
/-- and one entry per pixel of it. -/
abbrev SJ : Shape := ⟨3, ![8, 512, 512]⟩

/-- Class `k`'s score at pixel `j`. -/
abbrev over (j : SJ.Idx) (k : Fin 21) : SX.Idx := ix4 (n0 := 8) (n1 := 21) (n2 := 512) (n3 := 512) (j 0) k (j 1) (j 2)

theorem redX : SX.Reduces [1] SJ := by decide

theorem lift_eq (j : SJ.Idx) (k : Fin 21) : redX.lift j k = over j k := by
  funext a
  match a with
  | ⟨0, _⟩ => rfl
  | ⟨1, _⟩ => rfl
  | ⟨2, _⟩ => rfl
  | ⟨3, _⟩ => rfl

/-- The pattern of minus infinity, -/
theorem ofBits_neg_inf : Ideal.ofBits .f32 0xFF800000#32 = ⊥ := by
  simp [Ideal.ofBits, Ideal.ieee]
/-- and of plus infinity. -/
theorem ofBits_inf : Ideal.ofBits .f32 0x7F800000#32 = ⊤ := by
  simp [Ideal.ofBits, Ideal.ieee]

theorem olt_iff {s : Shape} (v w : FVec Ideal s .f32) (i : s.Idx) : cmpf .olt v w i = 1#1 ↔ v i < w i :=
  (ofBool_eq_one_iff _).trans decide_eq_true_iff

/-- A fold of the maximum from minus infinity is any entry not below another. -/
theorem fold_max_eq {n : ℕ} (a : Fin n → EReal) (c : Fin n) (h : ∀ k, a k ≤ a c) :
    (Finset.univ : Finset (Fin n)).fold max ⊥ a = a c := by
  apply le_antisymm
  · exact Finset.fold_max_le _ |>.2 ⟨bot_le, fun k _ => h k⟩
  · exact Finset.le_fold_max _ |>.2 (.inr ⟨c, Finset.mem_univ _, le_rfl⟩)

/-- What the precondition gives at a pixel: class `c`'s score there is above the others', finite, and the label not negative. -/
structure Clear (x : FVec Ideal SX .f32) (t : IVec SJ 32) (j : SJ.Idx) (c : Fin 21) : Prop where
  lt : ∀ k, k ≠ c → x (over j k) < x (over j c)
  top : x (over j c) < ⊤
  label : 0 ≤ (t j).toInt

/-- The reduction by the maximum over the classes, at a pixel. -/
theorem reduce_max (x : FVec Ideal SX .f32) (init : (⟨0, ![]⟩ : Shape).Idx → EReal) (hi : ∀ i, init i = ⊥) (h : SX.ReducesTo [1] SJ)
    (hu : 0 < (⟨0, ![]⟩ : Shape).numel) (j : SJ.Idx) :
    Host.reduce (FloatOps.maximumf (F := Ideal) (φ := .f32)) x init h hu j
      = (Finset.univ : Finset (Fin 21)).fold max ⊥ (fun k => x (over j k)) := by
  rw [Host.reduce_eq_fold_single _ _ _ h redX hu j, hi]
  show (Finset.univ : Finset (Fin 21)).fold max ⊥ _ = _
  congr 1
  funext k
  exact congrArg x (lift_eq j k)

/-- The count of the classes whose bit is set, at a pixel. -/
theorem reduce_count (b : IVec SX 1) (init : (⟨0, ![]⟩ : Shape).Idx → BitVec 32) (hi : ∀ i, init i = 0#32) (h : SX.ReducesTo [1] SJ)
    (hu : 0 < (⟨0, ![]⟩ : Shape).numel) (hw : 1 < 32) (j : SJ.Idx) :
    (Host.reduce IntOp.addi (extui 32 b hw) init h hu j).toNat
      = (Finset.univ.filter fun k : Fin 21 => b (over j k) = 1#1).card := by
  rw [Host.reduce_eq_fold_single _ _ _ h redX hu j, hi]
  have e : ∀ k : Fin 21, ((extui 32 b hw ∘ redX.lift j) k).toNat = if b (over j k) = 1#1 then 1 else 0 := fun k => by
    rw [← lift_eq j k]; exact toNat_setWidth_bit _
  have s : ∑ k : Fin 21, ((extui 32 b hw ∘ redX.lift j) k).toNat = (Finset.univ.filter fun k : Fin 21 => b (over j k) = 1#1).card := by
    rw [Finset.card_filter]; exact Finset.sum_congr rfl fun k _ => e k
  have := Finset.card_le_univ (Finset.univ.filter fun k : Fin 21 => b (over j k) = 1#1)
  simp only [Fintype.card_fin] at this
  refine (toNat_fold_addi _ _ ?_).trans s
  exact lt_of_eq_of_lt s (by omega)

theorem andi_eq_one {a b : BitVec 1} : IntOp.andi a b = 1#1 ↔ a = 1#1 ∧ b = 1#1 := by
  rcases BitVec.eq_zero_or_eq_one a with rfl | rfl <;> rcases BitVec.eq_zero_or_eq_one b with rfl | rfl <;> decide

theorem facts_no_tie : Cert.Pre_no_tie.Facts where
  reducesTo_S8x21x512x512_S8x512x512_d1 := by decide
  h_S_ := by decide
  bcast_S8x512x512_S8x1x512x512_0_2_3 := by decide
  bcast_S8x1x512x512_S8x21x512x512_0_1_2_3 := by decide
  natLt_1_32 := by decide
  bcast_S_S8x512x512 := by decide

/-- A per-pixel array repeated over the classes, at a class and a pixel. -/
theorem over_classes {α : Type} (h₁ : (⟨4, ![8, 1, 512, 512]⟩ : Shape).BroadcastsInDim SX (![0, 1, 2, 3] : Fin 4 → Fin SX.rank))
    (h₂ : SJ.BroadcastsInDim ⟨4, ![8, 1, 512, 512]⟩ (![0, 2, 3] : Fin 3 → Fin 4)) (y : SJ.Idx → α) (j : SJ.Idx) (k : Fin 21) :
    broadcastInDim SX ![0, 1, 2, 3] h₁ (broadcastInDim ⟨4, ![8, 1, 512, 512]⟩ ![0, 2, 3] h₂ y) (over j k) = y j := by
  refine (broadcastInDim_apply _ h₁ _ _ (ix4 (n0 := 8) (n1 := 1) (n2 := 512) (n3 := 512) (j 0) 0 (j 1) (j 2)) fun a => ?_).trans
    (broadcastInDim_apply _ h₂ _ _ j fun a => ?_)
  · fin_cases a <;> rfl
  · fin_cases a <;> rfl

theorem clear [Cert.Pre_no_tie.Facts] {x : FVec Ideal SX .f32} {t : IVec SJ 32}
    (h : Cert.Pre_no_tie.fn (F := Ideal) x t = fun _ => 1#1) (j : SJ.Idx) : ∃ c, Clear x t j c := by
  have hj := congrFun h j
  unfold Cert.Pre_no_tie.fn at hj
  dsimp only at hj
  obtain ⟨hj, h3⟩ := andi_eq_one.1 hj
  obtain ⟨h1, h2⟩ := andi_eq_one.1 hj
  have e1 : _ = 1#32 := cmpi_eq_iff.1 h1
  have e1 := congrArg BitVec.toNat e1
  rw [reduce_count _ (constantI Cert.Pre_no_tie.S_ 32 0#32) (fun _ => rfl)] at e1
  obtain ⟨c, hc⟩ := Finset.card_eq_one.1 e1
  have hM := reduce_max x (constant (F := Ideal) (⟨0, ![]⟩ : Shape) .f32 0xFF800000#32) (fun _ => ofBits_neg_inf)
    Cert.Pre_no_tie.Facts.reducesTo_S8x21x512x512_S8x512x512_d1 Cert.Pre_no_tie.Facts.h_S_ j
  have iff : ∀ k, x (over j k) = (Finset.univ : Finset (Fin 21)).fold max ⊥ (fun k => x (over j k)) ↔ k = c := fun k => by
    have := Finset.ext_iff.1 hc k
    simp only [Finset.mem_filter, Finset.mem_univ, true_and, Finset.mem_singleton] at this
    rw [← this]
    show _ ↔ BitVec.ofBool (decide (x (over j k) = broadcastInDim _ _ _ (broadcastInDim _ _ _ _) (over j k))) = 1#1
    rw [over_classes, ofBool_eq_one_iff, decide_eq_true_iff]
    exact (iff_of_eq (congrArg _ hM)).symm
  have top : (Finset.univ : Finset (Fin 21)).fold max ⊥ (fun k => x (over j k)) < ⊤ := by
    have h2 := (olt_iff _ _ _).1 h2
    exact lt_of_eq_of_lt hM.symm (lt_of_lt_of_eq h2 ofBits_inf)
  have le : ∀ k, x (over j k) ≤ (Finset.univ : Finset (Fin 21)).fold max ⊥ (fun k => x (over j k)) := fun k =>
    (Finset.le_fold_max _).2 (.inr ⟨k, Finset.mem_univ _, le_rfl⟩)
  have ec := (iff c).2 rfl
  refine ⟨c, fun k hk => ?_, ec ▸ top, ?_⟩
  · rw [ec]; exact lt_of_le_of_ne (le k) fun e => hk ((iff k).1 e)
  · change BitVec.ofBool ((0#32).sle (t j)) = 1#1 at h3
    simpa [BitVec.sle] using (ofBool_eq_one_iff _).1 h3

theorem Clear.le {x : FVec Ideal SX .f32} {t : IVec SJ 32} {j : SJ.Idx} {c : Fin 21} (h : Clear x t j c) (k : Fin 21) :
    x (over j k) ≤ x (over j c) := by
  by_cases e : k = c
  · rw [e]
  · exact (h.lt k e).le

theorem Clear.bot {x : FVec Ideal SX .f32} {t : IVec SJ 32} {j : SJ.Idx} {c : Fin 21} (h : Clear x t j c) : ⊥ < x (over j c) := by
  by_cases e : c = 0
  · exact lt_of_le_of_lt bot_le (h.lt 1 (by rw [e]; decide))
  · exact lt_of_le_of_lt bot_le (h.lt 0 (Ne.symm e))

end Cert.Iou

end
-- ==== Proof.Argmax.lean ====
/- The reference's predicted class: where one class's score is the strict greatest and finite, so is its softmax
   probability, and the search for the greatest probability ends on that class. -/
module

public import proofs.«01_k».proof.Proof.Pre
public import proofs.«01_k».proof.Proof.RefRun

@[expose] public section

set_option maxRecDepth 16384

noncomputable section

namespace Cert.Iou

open Idealize.ShloMosaic Idealize.ShloMosaic.StableHlo.Predicate
open Cert.ReferenceIdeal (reducer_argmax_f32_i32 softmax raised peak overClasses predicted)

/-- One step of the search that keeps the pair held. -/
theorem step_keep (a b : EReal × BitVec 32) (h : b.1 < a.1) : reducer_argmax_f32_i32 (F := Ideal) a b = a := by
  show (Scalar.select (IntOp.ori (Ideal.cmp .ogt a.1 b.1) (Ideal.cmp .une a.1 a.1)) a.1 b.1,
    Scalar.select (IntOp.ori (IntOp.ori (Ideal.cmp .ogt a.1 b.1) (Ideal.cmp .une a.1 a.1))
      (IntOp.andi (Ideal.cmp .oeq a.1 b.1) (IntOp.cmpi .slt a.2 b.2))) a.2 b.2) = a
  simp [Ideal.cmp, IntOp.ori, IntOp.andi, Scalar.select, h, h.ne']

/-- One step that takes the new pair. -/
theorem step_take (a b : EReal × BitVec 32) (h : a.1 < b.1) : reducer_argmax_f32_i32 (F := Ideal) a b = b := by
  show (Scalar.select (IntOp.ori (Ideal.cmp .ogt a.1 b.1) (Ideal.cmp .une a.1 a.1)) a.1 b.1,
    Scalar.select (IntOp.ori (IntOp.ori (Ideal.cmp .ogt a.1 b.1) (Ideal.cmp .une a.1 a.1))
      (IntOp.andi (Ideal.cmp .oeq a.1 b.1) (IntOp.cmpi .slt a.2 b.2))) a.2 b.2) = b
  simp [Ideal.cmp, IntOp.ori, IntOp.andi, Scalar.select, h.le.not_gt, h.ne]

/-- A step on a pair held already. -/
theorem step_self (a : EReal × BitVec 32) : reducer_argmax_f32_i32 (F := Ideal) a a = a := by
  show (Scalar.select (IntOp.ori (Ideal.cmp .ogt a.1 a.1) (Ideal.cmp .une a.1 a.1)) a.1 a.1,
    Scalar.select _ a.2 a.2) = a
  simp [Scalar.select]

/-- The search over a list one of whose pairs is above all others in value ends on that pair. -/
theorem search (top : EReal × BitVec 32) (L : List (EReal × BitVec 32)) (h : ∀ p ∈ L, p.1 < top.1 ∨ p = top) :
    ∀ init : EReal × BitVec 32, (init.1 < top.1 ∧ top ∈ L) ∨ init = top →
      L.foldl (reducer_argmax_f32_i32 (F := Ideal)) init = top := by
  induction L with
  | nil => rintro init (⟨_, h⟩ | h); · cases h
           exact h
  | cons b L ih =>
    intro init hi
    refine ih (fun p hp => h p (List.mem_cons_of_mem _ hp)) _ ?_
    rcases hi with ⟨lt, mem⟩ | rfl
    · rcases h b List.mem_cons_self with hb | rfl
      · left
        refine ⟨?_, (List.mem_cons.1 mem).resolve_left fun e => (e ▸ hb).ne rfl⟩
        rcases lt_trichotomy init.1 b.1 with h1 | h1 | h1
        · rw [step_take _ _ h1]; exact hb
        · show Scalar.select _ init.1 b.1 < top.1
          unfold Scalar.select
          split <;> assumption
        · rw [step_keep _ _ h1]; exact lt
      · right; exact step_take _ _ lt
    · right
      rcases h b List.mem_cons_self with hb | rfl
      · exact step_keep _ _ hb
      · exact step_self _

/-! ## Operations read at an index, over any shape -/

section
variable {s u : Shape}

theorem maximumf_at (v w : FVec Ideal s .f32) (i : s.Idx) : maximumf v w i = max (v i) (w i) := rfl
theorem subf_at (v w : FVec Ideal s .f32) (i : s.Idx) : subf v w i = v i - w i := rfl
theorem addf_at (v w : FVec Ideal s .f32) (i : s.Idx) : addf v w i = v i + w i := rfl
theorem exp_at (v : FVec Ideal s .f32) (i : s.Idx) : Host.exp v i = Ideal.exp (v i) := rfl
theorem hostDivf_at (v w : FVec Ideal s .f32) (i : s.Idx) : Host.divf v w i = Ideal.div (v i) (w i) := rfl
theorem constant_at (b : BitVec 32) (i : s.Idx) : constant (F := Ideal) s .f32 b i = Ideal.ofBits .f32 b := rfl

theorem iota_at (w : ℕ) (d : Fin s.rank) (i : s.Idx) : iotaInDim s w d i = BitVec.ofNat w (i d).val := rfl

/-- The host's sum over one axis. -/
theorem hostSum_at {t : Shape} {a : Fin s.rank} (h' : s.ReducesTo [a] t) (h : s.Reduces [a] t) (v : FVec Ideal s .f32) (init : FVec Ideal u .f32)
    (hu : 0 < u.numel) (j : t.Idx) : Host.reduceAdd v init h' hu j = init (Shape.Idx.first hu) + ∑ k : Fin (s.size a), v (h.lift j k) :=
  Ideal.hostReduceAdd_single h' h v _ j

/-- The host's search for the greatest of a fiber, one of whose entries is above the others. -/
theorem search_at {t : Shape} {a : Fin s.rank} (h' : s.ReducesTo [a] t) (h : s.Reduces [a] t) (v : FVec Ideal s .f32) (y : IVec s 32)
    (ix : FVec Ideal u .f32) (iy : IVec u 32) (hu : 0 < u.numel) (j : t.Idx) (c : Fin (s.size a)) (hix : ix (Shape.Idx.first hu) < v (h.lift j c))
    (hv : ∀ k, k ≠ c → v (h.lift j k) < v (h.lift j c)) :
    Host.argReduce (reducer_argmax_f32_i32 (F := Ideal)) v y ix iy h' hu j = (v (h.lift j c), y (h.lift j c)) := by
  rw [Ideal.argReduce_eq_reduce2, Host.reduce2_eq_foldl_fiber]
  refine search (v (h.lift j c), y (h.lift j c)) _ ?_ _ (.inl ⟨hix, ?_⟩)
  · intro p hp
    obtain ⟨n, hn, rfl⟩ := List.mem_map.1 hp
    have hd := of_decide_eq_true (List.mem_filter.1 hn).2
    rw [Shape.ReducesTo.drop_eq_drop _ h] at hd
    have hi := h.lift_drop (s.rowMajor.symm n)
    rw [hd] at hi
    rw [← hi]
    by_cases e : (s.rowMajor.symm n) a = c
    · right; rw [e]
    · left; exact hv _ e
  · refine List.mem_map.2 ⟨s.rowMajor (h.lift j c), List.mem_filter.2 ⟨List.mem_finRange _, ?_⟩, ?_⟩
    · rw [Equiv.symm_apply_apply, Shape.ReducesTo.drop_eq_drop _ h, h.drop_lift]; simp
    · rw [Equiv.symm_apply_apply]

end

variable [Cert.ReferenceIdeal.Facts]

theorem overClasses_apply (y : FVec Ideal SJ .f32) (j : SJ.Idx) (k : Fin 21) : overClasses (F := Ideal) y (over j k) = y j :=
  over_classes _ _ y j k

variable {x : FVec Ideal SX .f32} {t : IVec SJ 32} {j : SJ.Idx} {c : Fin 21}

theorem peak_eq (h : Clear x t j c) : peak (F := Ideal) x j = x (over j c) := by
  unfold peak
  rw [maximumf_at, reduce_max _ (constant (F := Ideal) Cert.ReferenceIdeal.S_ .f32 0xFF800000#32) (fun _ => ofBits_neg_inf),
    fold_max_eq (fun k => x (over j k)) c h.le]
  exact max_eq_right (le_of_eq_of_le ofBits_neg_inf bot_le)

/-- The exponentials at a pixel: reals, one at the greatest class and less elsewhere. -/
theorem raised_real (h : Clear x t j c) :
    ∃ f : Fin 21 → ℝ, (∀ k, raised (F := Ideal) x (over j k) = (f k : EReal)) ∧ f c = 1 ∧ (∀ k, 0 ≤ f k) ∧ ∀ k, k ≠ c → f k < 1 := by
  obtain ⟨m, hm⟩ : ∃ m : ℝ, x (over j c) = m := ⟨_, (EReal.coe_toReal h.top.ne h.bot.ne').symm⟩
  have one : ∀ k, ∃ r : ℝ, raised (F := Ideal) x (over j k) = r ∧ 0 ≤ r ∧ (k = c → r = 1) ∧ (k ≠ c → r < 1) := by
    intro k
    have e : raised (F := Ideal) x (over j k) = Ideal.exp (x (over j k) - m) := by
      unfold raised
      rw [exp_at, subf_at, overClasses_apply, peak_eq h, hm]
    rw [e]
    have le := h.le k
    rw [hm] at le
    rcases eq_bot_or_bot_lt (x (over j k)) with hx | hx
    · refine ⟨0, by rw [hx]; rfl, le_rfl, fun hk => ?_, fun _ => one_pos⟩
      rw [hk] at hx; exact absurd hx h.bot.ne'
    · obtain ⟨r, hr⟩ : ∃ r : ℝ, x (over j k) = r := ⟨_, (EReal.coe_toReal (lt_of_le_of_lt le (EReal.coe_lt_top m)).ne hx.ne').symm⟩
      rw [hr]
      refine ⟨Real.exp (r - m), by rw [← EReal.coe_sub]; rfl, (Real.exp_pos _).le, fun hk => ?_, fun hk => ?_⟩
      · rw [hk, hm] at hr; rw [EReal.coe_eq_coe_iff.1 hr]; simp
      · have := h.lt k hk
        rw [hr, hm, EReal.coe_lt_coe_iff] at this
        rw [← Real.exp_zero]
        exact Real.exp_lt_exp.2 (by linarith)
  choose f hf using one
  exact ⟨f, fun k => (hf k).1, (hf c).2.2.1 rfl, fun k => (hf k).2.1, fun k => (hf k).2.2.2⟩

/-- A finite sum of reals, as extended reals. -/
theorem coe_sum {n : ℕ} (f : Fin n → ℝ) : ((∑ k, f k : ℝ) : EReal) = ∑ k, (f k : EReal) := by
  induction n with
  | zero => simp
  | succ n ih => rw [Fin.sum_univ_succ, Fin.sum_univ_succ, EReal.coe_add, ih]

/-- The probabilities at a pixel: reals, the greatest class's above the others'. -/
theorem softmax_real (h : Clear x t j c) :
    ∃ q : Fin 21 → ℝ, (∀ k, softmax (F := Ideal) x (over j k) = (q k : EReal)) ∧ ∀ k, k ≠ c → q k < q c := by
  obtain ⟨f, hf, fc, f0, f1⟩ := raised_real h
  have s1 : 1 ≤ ∑ k, f k := fc ▸ Finset.single_le_sum (fun k _ => f0 k) (Finset.mem_univ c)
  have s2 : ∑ k : Fin 21, raised (F := Ideal) x (redX.lift j k) = ((∑ k, f k : ℝ) : EReal) := by
    rw [coe_sum]
    exact Finset.sum_congr rfl fun k _ => (congrArg _ (lift_eq j k)).trans (hf k)
  refine ⟨fun k => f k / ∑ k, f k, fun k => ?_, fun k hk => ?_⟩
  · unfold softmax
    rw [hostDivf_at, overClasses_apply, hostSum_at _ redX, constant_at, Ideal.ofBits_zero_f32, zero_add]
    refine (congrArg₂ Ideal.div (hf k) s2).trans ?_
    unfold Ideal.div
    rw [if_neg (by rw [← EReal.coe_zero, EReal.coe_eq_coe_iff]; linarith), ← EReal.coe_inv, ← EReal.coe_mul]
    exact congrArg _ (div_eq_mul_inv _ _).symm
  · have := f1 k hk
    show f k / _ < f c / _
    rw [fc]
    exact div_lt_div_of_pos_right this (by linarith)

/-- The reference's search over any probabilities, one of which is above the others. -/
theorem predicted_of (p : FVec Ideal SX .f32) (j : SJ.Idx) (c : Fin 21) (i0 : ⊥ < p (over j c)) (hl : ∀ k, k ≠ c → p (over j k) < p (over j c)) :
    predicted (F := Ideal) p j = BitVec.ofNat 32 c.val := by
  have e : (redX.lift j c 1).val = c.val := congrArg (fun i : SX.Idx => (i 1).val) (lift_eq j c)
  have i0 : constant (F := Ideal) Cert.ReferenceIdeal.S_ .f32 0xFF800000#32 (Shape.Idx.first Cert.ReferenceIdeal.Facts₀.h_S_)
      < p (redX.lift j c) := by
    rw [lift_eq, constant_at, ofBits_neg_inf]; exact i0
  have lt : ∀ k, k ≠ c → p (redX.lift j k) < p (redX.lift j c) := fun k hk => by
    rw [lift_eq, lift_eq]; exact hl k hk
  have r := search_at Cert.ReferenceIdeal.Facts₀.reducesTo_S8x21x512x512_S8x512x512_d1 redX p
    (iotaInDim Cert.ReferenceIdeal.S8x21x512x512 32 1) (constant (F := Ideal) Cert.ReferenceIdeal.S_ .f32 0xFF800000#32)
    (constantI Cert.ReferenceIdeal.S_ 32 0#32) Cert.ReferenceIdeal.Facts₀.h_S_ j c i0 lt
  have hp : predicted (F := Ideal) p = fun j => (Host.argReduce reducer_argmax_f32_i32 p (iotaInDim Cert.ReferenceIdeal.S8x21x512x512 32 1) (constant (F := Ideal) Cert.ReferenceIdeal.S_ .f32 0xFF800000#32) (constantI Cert.ReferenceIdeal.S_ 32 0#32)
    Cert.ReferenceIdeal.Facts₀.reducesTo_S8x21x512x512_S8x512x512_d1 Cert.ReferenceIdeal.Facts₀.h_S_ j).2 := by with_unfolding_all rfl
  have hp := congrFun hp j
  beta_reduce at hp
  rw [r] at hp
  rw [hp]
  exact (iota_at 32 1 (redX.lift j c)).trans (congrArg (BitVec.ofNat 32) e)

theorem predicted_eq (h : Clear x t j c) : predicted (softmax (F := Ideal) x) j = BitVec.ofNat 32 c.val := by
  obtain ⟨q, hq, hl⟩ := softmax_real h
  refine predicted_of (softmax (F := Ideal) x) j c ?_ fun k hk => ?_
  · rw [hq]; exact EReal.bot_lt_coe _
  · rw [hq, hq]; exact EReal.coe_lt_coe_iff.2 (hl k hk)

end Cert.Iou

end
-- ==== Proof.Hist.lean ====
/- Counting labels by an adding scatter: the scatter of a one for each label, into a vector of bins, leaves in each bin
   the number of labels naming it; a label naming no bin is dropped. -/
module

public import Idealize.ShloMosaic.Lib.Routing.Ops
public import Idealize.ShloMosaic.Lib.Routing.OpsPair

@[expose] public section

noncomputable section

namespace Cert.Iou

open Idealize.ShloMosaic Idealize.ShloMosaic.ValueIdx Idealize.ShloMosaic.Routing

/-- One of `N` scalars, scattered into a vector of `B` by one index word each, lands in the bin its word names. -/
theorem lands_bin {B N : ℕ} (d : ScatterDims (shape1 B) (shape2 N 1) (shape1 N)) (hiw : d.insertedWindowDims = [0])
    (hsd : d.scatterDimsToOperandDims = [0]) (hivd : d.indexVectorDim = 1) (idx : IVec (shape2 N 1) 32) (i : Fin N) (b : Fin B) :
    d.resultIdx? (ix1 i) idx = some (ix1 b) ↔ (idx (ix2 i (0 : Fin 1))).toInt = (b.val : Int) := by
  have mem : (0 : Fin 1) ∈ d.scatterDimsToOperandDims := by rw [hsd]; exact List.mem_singleton_self 0
  have at0 : d.siIdx (ix1 i) ⟨d.scatterDimsToOperandDims.idxOf 0, List.idxOf_lt_length_iff.2 mem⟩ = ix2 i (0 : Fin 1) := by
    funext a
    apply Fin.ext
    fin_cases a
    · unfold ScatterDims.siIdx
      rw [dif_neg (by rw [hivd]; exact Nat.zero_ne_one)]
      unfold ScatterDims.siCoord
      have e : ∀ q : Fin 1, (ix1 i q).val = i.val := fun q => by rw [Subsingleton.elim q 0]
      exact e _
    · unfold ScatterDims.siIdx
      rw [dif_pos (by rw [hivd])]
      show List.idxOf (0 : Fin 1) d.scatterDimsToOperandDims = 0
      rw [hsd]; simp
  have start : d.start (ix1 i) idx 0 = (idx (ix2 i (0 : Fin 1))).toInt := by
    unfold ScatterDims.start
    rw [dif_pos mem, at0]
  have window : d.window (ix1 i) 0 = 0 := by
    unfold ScatterDims.window
    refine dif_neg fun h => ?_
    have := of_decide_eq_true (List.mem_filter.1 h).2
    rw [hiw] at this
    exact this (List.mem_singleton_self 0)
  rw [resultIdx?_eq_some]
  constructor
  · intro h
    have h0 := h 0
    rw [start, window] at h0
    simp at h0
    exact h0
  · intro h a
    obtain rfl : a = 0 := Subsingleton.elim (α := Fin 1) _ _
    rw [start, window, h]
    simp
    rfl

/-- The number of positions of a list of all of `Fin n` with a property. -/
theorem countP_finRange_card {n : ℕ} (P : Fin n → Prop) [DecidablePred P] :
    (List.finRange n).countP (fun i => decide (P i)) = (Finset.univ.filter P).card := by
  rw [List.countP_eq_length_filter]
  rfl

/-- The counts: a bin holds the number of positions whose word names it. -/
theorem scatter_count {B N : ℕ} (d : ScatterDims (shape1 B) (shape2 N 1) (shape1 N)) (hiw : d.insertedWindowDims = [0])
    (hsd : d.scatterDimsToOperandDims = [0]) (hivd : d.indexVectorDim = 1) (x0 : IVec (shape1 B) 32) (hx0 : ∀ i, x0 i = 0#32)
    (idx : IVec (shape2 N 1) 32) (upd : IVec (shape1 N) 32) (hupd : ∀ i, upd i = 1#32) (b : Fin B) :
    Host.scatter d IntOp.addi x0 idx upd (ix1 b)
      = BitVec.ofNat 32 (Finset.univ.filter fun i : Fin N => (idx (ix2 i (0 : Fin 1))).toInt = (b.val : Int)).card := by
  classical
  have hit : ∀ n : Fin (shape1 N).numel, d.resultIdx? ((shape1 N).rowMajor.symm n) idx = some (ix1 b)
      ↔ (idx (ix2 (n.cast (numel1 N)) (0 : Fin 1))).toInt = (b.val : Int) := fun n => by
    rw [symm1]; exact lands_bin d hiw hsd hivd idx _ b
  rw [scatter_at]
  have fold : ∀ (l : List (Fin (shape1 N).numel)) (z : ℕ),
      l.foldl (fun a n => if d.resultIdx? ((shape1 N).rowMajor.symm n) idx = some (ix1 b)
        then IntOp.addi a (upd ((shape1 N).rowMajor.symm n)) else a) (BitVec.ofNat 32 z)
      = BitVec.ofNat 32 (z + l.countP fun n => decide ((idx (ix2 (n.cast (numel1 N)) (0 : Fin 1))).toInt = (b.val : Int))) := by
    intro l
    induction l with
    | nil => intro z; simp
    | cons n l ih =>
      intro z
      rw [List.foldl_cons, List.countP_cons]
      by_cases e : (idx (ix2 (n.cast (numel1 N)) (0 : Fin 1))).toInt = (b.val : Int)
      · rw [if_pos ((hit n).2 e), hupd, show IntOp.addi (BitVec.ofNat 32 z) 1#32 = BitVec.ofNat 32 (z + 1) from (BitVec.ofNat_add z 1).symm, ih,
          if_pos (decide_eq_true e)]
        congr 1; omega
      · rw [if_neg fun h => e ((hit n).1 h), ih, if_neg (by simpa using e)]
        congr 1
  rw [hx0, show (0#32 : BitVec 32) = BitVec.ofNat 32 0 from rfl, fold, Nat.zero_add, countP_finRange_card]
  congr 1
  exact Finset.card_equiv (finCongr (numel1 N)) fun n => by simp

/-- Counting over a reshaped array is counting over the array. -/
theorem card_reshape {α : Type} {N : ℕ} {s : Shape} (h : s.ShapeCasts (shape1 N)) (l : s.Idx → α) (P : α → Prop) [DecidablePred P] :
    (Finset.univ.filter fun i : Fin N => P (shapeCast (shape1 N) l h (ix1 i))).card = (Finset.univ.filter fun j : s.Idx => P (l j)).card := by
  let e : Fin N ≃ (shape1 N).Idx := (finCongr (numel1 N).symm).trans (shape1 N).rowMajor.symm
  have he : ∀ i, e i = ix1 i := fun i => symm1 _
  refine Finset.card_equiv (e.trans (Shape.reshapeEquiv h)) fun i => ?_
  simp only [Finset.mem_filter, Finset.mem_univ, true_and, Equiv.trans_apply, he]
  rfl

end Cert.Iou

end
-- ==== Proof.Counts.lean ====
/- The reference's result from the pixel counts: for each class the number of pixels where it is both the clear class
   and the label, and the number where it is one of them. -/
module

public import proofs.«01_k».proof.Proof.Argmax
public import proofs.«01_k».proof.Proof.Hist

@[expose] public section

set_option maxRecDepth 16384

noncomputable section

namespace Cert.Iou

open Idealize.ShloMosaic hiding ix1 ix2 ix3
open Idealize.ShloMosaic.StableHlo.Predicate Idealize.ShloMosaic.ValueIdx Idealize.ShloMosaic.Routing
open Cert.ReferenceIdeal (softmax predicted everyPixel binOf countMore agreed tiny common meanIou listed result)

/-- The pixels with a property, counted. -/
abbrev pixels (P : SJ.Idx → Prop) [DecidablePred P] : ℕ := (Finset.univ.filter P).card

theorem pixels_le (P : SJ.Idx → Prop) [DecidablePred P] : pixels P ≤ 2097152 := by
  refine (Finset.card_le_univ _).trans (le_of_eq ?_)
  rw [Fintype.card_congr SJ.rowMajor, Fintype.card_fin]
  rfl

section
variable {s : Shape}
theorem maxsi_at {w : ℕ} (v u : IVec s w) (i : s.Idx) : maxsi v u i = IntOp.maxsi (v i) (u i) := rfl
theorem addi_at {w : ℕ} (v u : IVec s w) (i : s.Idx) : addi v u i = v i + u i := rfl
theorem cmpi_at {w : ℕ} (p : CmpIPredicate) (v u : IVec s w) (i : s.Idx) : cmpi p v u i = IntOp.cmpi p (v i) (u i) := rfl
theorem select_at {α : Type} (c : IVec s 1) (v u : s.Idx → α) (i : s.Idx) : select c v u i = Scalar.select (c i) (v i) (u i) := rfl
theorem sitofp_at {w : ℕ} (v : IVec s w) (i : s.Idx) : sitofp (F := Ideal) .f32 v i = ((v i).toInt : ℝ) := rfl
end

variable [Cert.ReferenceIdeal.Facts]

theorem everyPixel_at (w : BitVec 32) (i : (shape1 2097152).Idx) : everyPixel w i = w := rfl

/-- The bin of a label that is not negative is the label. -/
theorem binOf_at (n : BitVec 32) (l : IVec (shape1 2097152) 32) (i : Fin 2097152) (h : 0 ≤ (l (ix1 i)).toInt) :
    binOf n l (ix2 i (0 : Fin 1)) = l (ix1 i) := by
  unfold binOf
  refine (bcCol _ _ i).trans ?_
  have e : IntOp.maxsi (0#32) (l (ix1 i)) = l (ix1 i) := by
    have : ¬ BitVec.slt (l (ix1 i)) 0#32 = true := by simpa [BitVec.slt] using h
    unfold IntOp.maxsi
    rw [if_neg this]
  rw [select_at, cmpi_at, maxsi_at, everyPixel_at, e]
  have : IntOp.cmpi .slt (l (ix1 i)) 0#32 = 0#1 := by
    show BitVec.ofBool (BitVec.slt _ _) = _
    have : BitVec.slt (l (ix1 i)) 0#32 = false := by simpa [BitVec.slt] using h
    rw [this]; rfl
  rw [this]
  rfl

theorem count_at (l : IVec SJ 32) (h : ∀ j, 0 ≤ (l j).toInt) (k : Fin 21) :
    Cert.ReferenceIdeal.count (listed l) (ix1 k) = BitVec.ofNat 32 (pixels fun j => (l j).toInt = (k.val : Int)) := by
  unfold Cert.ReferenceIdeal.count
  refine (scatter_count Cert.ReferenceIdeal.scatter_S21_S2097152x1_S2097152_n_0_0_1 rfl rfl rfl _ (fun _ => rfl) _ _ (fun _ => rfl) k).trans ?_
  refine congrArg (BitVec.ofNat 32) ?_
  have e : ∀ i, binOf 21#32 (listed l) (ix2 i (0 : Fin 1)) = listed l (ix1 i) := fun i => binOf_at _ _ i (h _)
  simp only [e]
  exact card_reshape Cert.ReferenceIdeal.Facts₀.shapeCasts_S8x512x512_S2097152 l fun w => w.toInt = (k.val : Int)

theorem countMore_at (l : IVec SJ 32) (h : ∀ j, 0 ≤ (l j).toInt) (k : Fin 22) :
    countMore (listed l) (ix1 k) = BitVec.ofNat 32 (pixels fun j => (l j).toInt = (k.val : Int)) := by
  unfold countMore
  refine (scatter_count Cert.ReferenceIdeal.scatter_S22_S2097152x1_S2097152_n_0_0_1 rfl rfl rfl _ (fun _ => rfl) _ _ (fun _ => rfl) k).trans ?_
  refine congrArg (BitVec.ofNat 32) ?_
  have e : ∀ i, binOf 22#32 (listed l) (ix2 i (0 : Fin 1)) = listed l (ix1 i) := fun i => binOf_at _ _ i (h _)
  simp only [e]
  exact card_reshape Cert.ReferenceIdeal.Facts₀.shapeCasts_S8x512x512_S2097152 l fun w => w.toInt = (k.val : Int)

omit [Cert.ReferenceIdeal.Facts] in
theorem toInt_class (c : Fin 21) : (BitVec.ofNat 32 c.val).toInt = (c.val : Int) := toInt_ofNat_small _ (by omega)

/-- The pixels predicted right keep their class, the others go to the bin that counts nowhere. -/
theorem agreed_listed (p t : IVec SJ 32) :
    agreed (listed p) (listed t) = listed fun j => Scalar.select (IntOp.cmpi .eq (p j) (t j)) (p j) 21#32 := rfl

/-- The host's sum over everything. -/
theorem hostTotal_at {s t u : Shape} {axes : List (Fin s.rank)} (h : s.ReducesTo axes t) (ht : ∀ b, t.size b = 1) (v : FVec Ideal s .f32)
    (init : FVec Ideal u .f32) (hu : 0 < u.numel) (j : t.Idx) :
    Host.reduceAdd v init h hu j = init (Shape.Idx.first hu) + ∑ i : s.Idx, v i :=
  Ideal.hostReduceAdd_total h ht v _ j

/-- The small number, -/
def eps : EReal := Ideal.ofBits .f32 0x358637BD#32
/-- the number of classes, -/
def classes : EReal := Ideal.ofBits .f32 0x41A80000#32
/-- and the mean over the classes of intersection over union. -/
def meanOf (I U : Fin 21 → ℕ) : EReal :=
  Ideal.div (∑ k, Ideal.div (((I k : ℝ) : EReal) + eps) (((U k : ℝ) : EReal) + eps)) classes

/-- The mean from the three counts, where the first two add up to what the third and the union do. -/
theorem meanIou_at (p t : IVec Cert.ReferenceIdeal.S21 32) (b : IVec Cert.ReferenceIdeal.S22 32) (P T I U : Fin 21 → ℕ)
    (hp : ∀ k, p (ix1 k) = BitVec.ofNat 32 (P k)) (ht : ∀ k, t (ix1 k) = BitVec.ofNat 32 (T k))
    (hb : ∀ k : Fin 21, b (ix1 (k.castSucc)) = BitVec.ofNat 32 (I k)) (hU : ∀ k, P k + T k = U k + I k) (hs : ∀ k, P k + T k < 2 ^ 31)
    (i : Cert.ReferenceIdeal.S_.Idx) : meanIou (F := Ideal) p t b i = meanOf I U := by
  have hc : ∀ k : Fin 21, common (F := Ideal) b (ix1 k) = ((I k : ℝ) : EReal) := fun k => by
    unfold common
    rw [sitofp_at]
    have e : extractStridedSlice Cert.ReferenceIdeal.S21 ![0] b Cert.ReferenceIdeal.Facts₀.slices_S22_S21_0 (ix1 k) = BitVec.ofNat 32 (I k) := by
      refine (slice1 0 b _ k (by omega)).trans (Eq.trans ?_ (hb k))
      exact congrArg (fun q => b (ix1 q)) (Fin.ext (Nat.zero_add _))
    rw [e, toInt_ofNat_small _ (by have := hU k; have := hs k; omega)]
    simp
  have hsum : ∀ k : Fin 21, sitofp (F := Ideal) .f32 (addi p t) (ix1 k) = (((P k + T k : ℕ) : ℝ) : EReal) := fun k => by
    rw [sitofp_at, addi_at, hp, ht, ← BitVec.ofNat_add, toInt_ofNat_small _ (hs k)]
    simp
  have htiny : ∀ k : Fin 21, tiny (F := Ideal) (ix1 k) = eps := fun k => rfl
  unfold meanIou
  rw [hostDivf_at, hostTotal_at _ (fun b => b.elim0), constant_at, constant_at, Ideal.ofBits_zero_f32, zero_add]
  unfold meanOf
  refine congrArg (fun z => Ideal.div z classes) ((sum_idx1 _).trans (Finset.sum_congr rfl fun k _ => ?_))
  have hsub : (((P k + T k : ℕ) : ℝ) : EReal) - ((I k : ℝ) : EReal) = ((U k : ℝ) : EReal) := by
    rw [← EReal.coe_sub, hU k]; congr 1; push_cast; ring
  refine congrArg₂ Ideal.div (congrArg₂ (· + ·) (hc k) (htiny k)) (congrArg₂ (· + ·) ?_ (htiny k))
  exact (congrArg₂ (· - ·) (hsum k) (hc k)).trans hsub

/-- The pixels where class `k` is both the clear class and the label, -/
def both (t : IVec SJ 32) (cl : SJ.Idx → Fin 21) (k : Fin 21) : ℕ := pixels fun j => cl j = k ∧ (t j).toInt = (k.val : Int)
/-- and where it is one of them. -/
def either (t : IVec SJ 32) (cl : SJ.Idx → Fin 21) (k : Fin 21) : ℕ := pixels fun j => cl j = k ∨ (t j).toInt = (k.val : Int)

theorem mean_of_labels (p t : IVec SJ 32) (cl : SJ.Idx → Fin 21) (hp : ∀ j, p j = BitVec.ofNat 32 (cl j).val) (ht : ∀ j, 0 ≤ (t j).toInt)
    (i : Cert.ReferenceIdeal.S_.Idx) :
    meanIou (F := Ideal) (Cert.ReferenceIdeal.count (listed p)) (Cert.ReferenceIdeal.count (listed t)) (countMore (agreed (listed p) (listed t))) i
      = meanOf (both t cl) (either t cl) := by
  have hpi : ∀ j, (p j).toInt = ((cl j).val : Int) := fun j => by rw [hp, toInt_class]
  rw [agreed_listed]
  refine meanIou_at _ _ _ (fun k => pixels fun j => (p j).toInt = (k.val : Int)) (fun k => pixels fun j => (t j).toInt = (k.val : Int)) _ _
    (fun k => count_at p (fun j => by rw [hpi]; omega) k) (fun k => count_at t ht k) (fun k => ?_) (fun k => ?_) (fun k => ?_) i
  · refine (countMore_at _ (fun j => ?_) k.castSucc).trans (congrArg (BitVec.ofNat 32) (congrArg Finset.card (Finset.filter_congr fun j _ => ?_)))
    · unfold Scalar.select
      split
      · rw [hpi]; omega
      · decide
    · unfold Scalar.select
      split
      · next h =>
        have h : p j = t j := cmpi_eq_iff.1 h
        rw [← h, hpi]
        simp only [Fin.val_castSucc, Fin.ext_iff]
        omega
      · next h =>
        have e21 : (21#32 : BitVec 32).toInt = 21 := by decide
        rw [e21]
        constructor
        · intro e; have := k.isLt; simp only [Fin.val_castSucc] at e; omega
        · rintro ⟨rfl, e⟩
          refine absurd (cmpi_eq_iff.2 (BitVec.eq_of_toInt_eq ?_)) h
          rw [hpi, e]
  · have e : (Finset.univ.filter fun j => (p j).toInt = (k.val : Int)) = Finset.univ.filter fun j => cl j = k :=
      Finset.filter_congr fun j _ => by rw [hpi, Fin.ext_iff]; omega
    unfold both either pixels
    rw [e, Finset.filter_or, Finset.filter_and, Finset.card_union_add_card_inter]
  · have := pixels_le fun j => (p j).toInt = (k.val : Int)
    have := pixels_le fun j => (t j).toInt = (k.val : Int)
    omega

/-- The reference's result. -/
theorem result_eq {x : FVec Ideal SX .f32} {t : IVec SJ 32} (cl : SJ.Idx → Fin 21) (h : ∀ j, Clear x t j (cl j)) (i : Cert.ReferenceIdeal.S_.Idx) :
    result (F := Ideal) x t i = meanOf (both t cl) (either t cl) := by
  have hp : ∀ j, predicted (softmax (F := Ideal) x) j = BitVec.ofNat 32 (cl j).val := fun j => predicted_eq (h j)
  unfold result
  generalize predicted (softmax (F := Ideal) x) = p at hp ⊢
  exact mean_of_labels p t cl hp (fun j => (h j).label) i

end Cert.Iou

end
-- ==== Proof.Sums.lean ====
/- The accumulators of the kernel as counts: what one group's part adds to each entry of them, entry by entry, and so
   what every group of a sample adds. -/
module

public import proofs.«01_k».proof.Proof.Triple
public import proofs.«01_k».proof.Proof.Counts

@[expose] public section

set_option maxRecDepth 16384

noncomputable section

namespace Cert.Iou

open Idealize.ShloMosaic
open VecWindow (window put)

/-! ## Reads -/

/-- Row `i` of group `r`. -/
abbrev row (r : Fin 32) (i : Fin 16) : Fin 512 := ⟨16 * r.val + i.val, by omega⟩

/-- The lower row that is added into accumulator row `s`, -/
abbrev lo (s : Fin 8) : Fin 16 := ⟨s.val, by omega⟩
/-- and the upper. -/
abbrev hi (s : Fin 8) : Fin 16 := ⟨8 + s.val, by omega⟩

section
variable {s : Shape}
theorem fcmp_at (p : CmpFPredicate) (v u : FVec Ideal s .f32) (i : s.Idx) : cmpf p v u i = Ideal.cmp p (v i) (u i) := rfl
theorem divf_at (v u : FVec Ideal s .f32) (i : s.Idx) : divf v u i = Ideal.div (v i) (u i) := rfl
theorem broadcast_at {α : Type} (v : α) (i : s.Idx) : broadcast s v i = v := rfl
end

theorem scores_at (P : FVec Ideal SP .f32) (r : Fin 32) (c : Fin 21) (i : Fin 16) (w : Fin 512) :
    scores P r c (ix2 i w) = P (ix4 (n0 := 1) 0 c (row r i) w) := by
  unfold scores
  rw [shapeCast_apply _ castP (ix2 i w) (ix4 (n0 := 1) (n1 := 1) 0 0 i w) (by
    rw [Shape.rowMajor_val_four, Shape.rowMajor_val_two]; simp)]
  unfold VecWindow.window
  refine congrArg P (funext fun a => Fin.ext ?_)
  match a with
  | ⟨0, _⟩ => rfl
  | ⟨1, _⟩ => show c.val + 1 * 0 = c.val; omega
  | ⟨2, _⟩ => show 16 * r.val + 1 * i.val = 16 * r.val + i.val; omega
  | ⟨3, _⟩ => show 0 + 1 * w.val = w.val; omega

theorem labels_at (T : IVec ST 32) (r : Fin 32) (i : Fin 16) (w : Fin 512) :
    labels T r (ix2 i w) = T (ix3 (n0 := 1) 0 (row r i) w) := by
  unfold labels
  rw [shapeCast_apply _ castT (ix2 i w) (ix3 (n0 := 1) 0 i w) (by
    rw [Shape.rowMajor_val_three, Shape.rowMajor_val_two]; simp)]
  unfold VecWindow.window
  refine congrArg T (funext fun a => Fin.ext ?_)
  match a with
  | ⟨0, _⟩ => rfl
  | ⟨1, _⟩ => show 16 * r.val + 1 * i.val = 16 * r.val + i.val; omega
  | ⟨2, _⟩ => show 0 + 1 * w.val = w.val; omega

theorem accum_at (a : FVec Ideal SA1 .f32) (g : FVec Ideal SG .f32) (s : Fin 8) (w : Fin 512) :
    accum a g (ix3 (n0 := 1) 0 s w) = a (ix3 (n0 := 1) 0 s w) + (g (ix2 (lo s) w) + g (ix2 (hi s) w)) := by
  unfold accum
  rw [shapeCast_apply _ castH (ix3 (n0 := 1) 0 s w) (ix2 s w) (by
    rw [Shape.rowMajor_val_three, Shape.rowMajor_val_two]; simp), addf_at, addf_at]
  refine congrArg₂ (· + ·) ?_ (congrArg₂ (· + ·) ?_ ?_)
  · exact shapeCast_apply _ castA (ix2 s w) (ix3 (n0 := 1) 0 s w) (by
      rw [Shape.rowMajor_val_three, Shape.rowMajor_val_two]; simp)
  · refine extractStridedSlice_apply _ g sliceLo (ix2 s w) (ix2 (lo s) w) fun a => ?_
    match a with
    | ⟨0, _⟩ => show s.val = 0 + s.val; omega
    | ⟨1, _⟩ => show w.val = 0 + w.val; omega
  · refine extractStridedSlice_apply _ g sliceHi (ix2 s w) (ix2 (hi s) w) fun a => ?_
    match a with
    | ⟨0, _⟩ => rfl
    | ⟨1, _⟩ => show w.val = 0 + w.val; omega

theorem addAt_self (A : FVec Ideal SA .f32) (c : Fin 21) (g : FVec Ideal SG .f32) (s : Fin 8) (w : Fin 512) :
    addAt A c g (ix3 c s w) = A (ix3 c s w) + (g (ix2 (lo s) w) + g (ix2 (hi s) w)) := by
  unfold addAt
  have h : ∀ a, offA c a ≤ (ix3 c s w a).val ∧ (ix3 c s w a).val < offA c a + SA1.size a := by
    intro a
    match a with
    | ⟨0, _⟩ => show c.val ≤ c.val ∧ c.val < c.val + 1; omega
    | ⟨1, _⟩ => show 0 ≤ s.val ∧ s.val < 0 + 8; omega
    | ⟨2, _⟩ => show 0 ≤ w.val ∧ w.val < 0 + 512; omega
  unfold VecWindow.put
  rw [dif_pos h]
  have e : (Rect.unitLocal (s := SA) (off := offA c) (size := SA1.size) (ix3 c s w) h : SA1.Idx) = ix3 (n0 := 1) 0 s w := by
    funext a
    apply Fin.ext
    match a with
    | ⟨0, _⟩ => show c.val - c.val = 0; omega
    | ⟨1, _⟩ => rfl
    | ⟨2, _⟩ => rfl
  refine (congrArg _ e).trans ?_
  rw [accum_at]
  refine congrArg₂ (· + ·) ?_ rfl
  unfold VecWindow.window
  refine congrArg A (funext fun a => Fin.ext ?_)
  match a with
  | ⟨0, _⟩ => rfl
  | ⟨1, _⟩ => show 0 + 1 * s.val = s.val; omega
  | ⟨2, _⟩ => show 0 + 1 * w.val = w.val; omega

theorem addAt_other (A : FVec Ideal SA .f32) (c : Fin 21) (g : FVec Ideal SG .f32) (k : Fin 21) (hk : k ≠ c) (s : Fin 8) (w : Fin 512) :
    addAt A c g (ix3 k s w) = A (ix3 k s w) := by
  unfold addAt VecWindow.put
  refine dif_neg fun h => hk (Fin.ext ?_)
  have h0 : c.val ≤ k.val ∧ k.val < c.val + 1 := h 0
  omega

/-! ## Counts -/

/-- A count as a number. -/
def toE : ℕ →+ EReal where
  toFun n := ((n : ℝ) : EReal)
  map_zero' := by simp
  map_add' a b := by push_cast; rfl

theorem toE_apply (n : ℕ) : toE n = ((n : ℝ) : EReal) := rfl

/-- The accumulator holds the counts `N`. -/
def Holds (A : FVec Ideal SA .f32) (N : Fin 21 → Fin 8 → Fin 512 → ℕ) : Prop :=
  ∀ k s w, A (ix3 k s w) = toE (N k s w)

/-- The group's part is the counts `γ`. -/
def Part (g : FVec Ideal SG .f32) (γ : Fin 16 → Fin 512 → ℕ) : Prop :=
  ∀ i w, g (ix2 i w) = toE (γ i w)

theorem Holds.add {A : FVec Ideal SA .f32} {N : Fin 21 → Fin 8 → Fin 512 → ℕ} (h : Holds A N) (c : Fin 21) {g : FVec Ideal SG .f32}
    {γ : Fin 16 → Fin 512 → ℕ} (hg : Part g γ) :
    Holds (addAt A c g) fun k s w => N k s w + if k = c then γ (lo s) w + γ (hi s) w else 0 := by
  intro k s w
  by_cases hk : k = c
  · subst hk
    rw [addAt_self, h, hg, hg, ← map_add, ← map_add]
    beta_reduce
    rw [if_pos rfl]
  · rw [addAt_other _ _ _ _ hk, h]
    beta_reduce
    rw [if_neg hk, Nat.add_zero]

theorem holds_zeros : Holds (zeros (F := Ideal)) fun _ _ _ => 0 := by
  intro k s w
  unfold zeros
  rw [shapeCast_apply _ castAA (ix3 k s w) (ix3 k s w) rfl, broadcast_at, map_zero]
  exact Ideal.ofBits_zero_f32

/-- Every class of a group: the two accumulators gain the group's parts, class by class. -/
theorem holds_classes (P : FVec Ideal SP .f32) (t : IVec SG 32) (m : FVec Ideal SG .f32) (r : Fin 32) (γ δ : Fin 21 → Fin 16 → Fin 512 → ℕ)
    (hI : ∀ c, Part (interAt t m (scores P r c) c) (γ c)) (hU : ∀ c, Part (unionAt t m (scores P r c) c) (δ c)) (l : List (Fin 21))
    (hl : l.Nodup) :
    ∀ (A : FVec Ideal SA .f32 × FVec Ideal SA .f32) (N M : Fin 21 → Fin 8 → Fin 512 → ℕ), Holds A.1 N → Holds A.2 M →
      Holds (l.foldl (classStep P t m r) A).1 (fun k s w => N k s w + if k ∈ l then γ k (lo s) w + γ k (hi s) w else 0)
      ∧ Holds (l.foldl (classStep P t m r) A).2 (fun k s w => M k s w + if k ∈ l then δ k (lo s) w + δ k (hi s) w else 0) := by
  induction l with
  | nil => intro A N M h1 h2; exact ⟨by simpa using h1, by simpa using h2⟩
  | cons c l ih =>
    intro A N M h1 h2
    obtain ⟨hc, hl⟩ := List.nodup_cons.mp hl
    have := ih hl (classStep P t m r A c) _ _ (h1.add c (hI c)) (h2.add c (hU c))
    rw [List.foldl_cons]
    refine ⟨fun k s w => (this.1 k s w).trans (congrArg toE ?_), fun k s w => (this.2 k s w).trans (congrArg toE ?_)⟩
    all_goals
      by_cases hk : k = c
      · subst hk; simp [hc]
      · simp [hk]

/-- One sample: the two accumulators gain the parts of every group. -/
theorem holds_groups (P : FVec Ideal SP .f32) (T : IVec ST 32) (γ δ : Fin 32 → Fin 21 → Fin 16 → Fin 512 → ℕ)
    (hI : ∀ r c, Part (interAt (labels T r) (best P r) (scores P r c) c) (γ r c))
    (hU : ∀ r c, Part (unionAt (labels T r) (best P r) (scores P r c) c) (δ r c)) (l : List (Fin 32)) :
    ∀ (A : FVec Ideal SA .f32 × FVec Ideal SA .f32) (N M : Fin 21 → Fin 8 → Fin 512 → ℕ), Holds A.1 N → Holds A.2 M →
      Holds (l.foldl (groupStep P T) A).1 (fun k s w => N k s w + (l.map fun r => γ r k (lo s) w + γ r k (hi s) w).sum)
      ∧ Holds (l.foldl (groupStep P T) A).2 (fun k s w => M k s w + (l.map fun r => δ r k (lo s) w + δ r k (hi s) w).sum) := by
  induction l with
  | nil => intro A N M h1 h2; exact ⟨by simpa using h1, by simpa using h2⟩
  | cons r l ih =>
    intro A N M h1 h2
    have h := holds_classes P (labels T r) (best P r) r (γ r) (δ r) (hI r) (hU r) (List.finRange 21) (List.nodup_finRange 21) A N M h1 h2
    have := ih (groupStep P T A r) _ _ h.1 h.2
    rw [List.foldl_cons]
    refine ⟨fun k s w => (this.1 k s w).trans (congrArg toE ?_), fun k s w => (this.2 k s w).trans (congrArg toE ?_)⟩
    all_goals
      beta_reduce
      rw [if_pos (List.mem_finRange k), List.map_cons, List.sum_cons, Nat.add_assoc]

theorem holds_sample (P : FVec Ideal SP .f32) (T : IVec ST 32) (γ δ : Fin 32 → Fin 21 → Fin 16 → Fin 512 → ℕ)
    (hI : ∀ r c, Part (interAt (labels T r) (best P r) (scores P r c) c) (γ r c))
    (hU : ∀ r c, Part (unionAt (labels T r) (best P r) (scores P r c) c) (δ r c))
    (A : FVec Ideal SA .f32 × FVec Ideal SA .f32) (N M : Fin 21 → Fin 8 → Fin 512 → ℕ) (h1 : Holds A.1 N) (h2 : Holds A.2 M) :
    Holds (sampleStep P T A).1 (fun k s w => N k s w + ∑ r, (γ r k (lo s) w + γ r k (hi s) w))
      ∧ Holds (sampleStep P T A).2 (fun k s w => M k s w + ∑ r, (δ r k (lo s) w + δ r k (hi s) w)) := by
  have := holds_groups P T γ δ hI hU (List.finRange 32) A N M h1 h2
  unfold sampleStep
  refine ⟨fun k s w => (this.1 k s w).trans (congrArg toE ?_), fun k s w => (this.2 k s w).trans (congrArg toE ?_)⟩
  all_goals
    beta_reduce
    rw [Fin.sum_univ_def]

/-! ## The result -/

theorem total_at (I : FVec Ideal SA .f32) (k : Fin 21) :
    multiReduction .add [1, 2] SC I 0x00000000#32 redA (.inl rfl) rfl (ix1 k) = ∑ s : Fin 8, ∑ w : Fin 512, I (ix3 k s w) := by
  have h : ∀ (a : Fin 21) (s : Fin 8) (w : Fin 512), (redA.drop (ix3 a s w) = ix1 k) ↔ a = k := by
    intro a s w
    have hv : (redA.drop (ix3 a s w) 0).val = a.val := Shape.Reduces.drop_apply_val redA (ix3 a s w) 0
    constructor
    · intro e
      apply Fin.ext
      rw [← hv, e]; rfl
    · rintro rfl
      funext b
      match b with
      | ⟨0, _⟩ => exact Fin.ext hv
  show (∑ i ∈ Finset.univ.filter (fun i => redA.drop i = ix1 k), I i) = _
  rw [Finset.sum_filter, sum_idx3]
  simp only [h]
  rw [Finset.sum_eq_single k (fun b _ hb => by simp [hb]) (by simp)]
  simp

theorem finish_at (I U : FVec Ideal SA .f32) (a b : Fin 21 → ℕ)
    (hI : ∀ k, (∑ s : Fin 8, ∑ w : Fin 512, I (ix3 k s w)) = toE (a k)) (hU : ∀ k, (∑ s : Fin 8, ∑ w : Fin 512, U (ix3 k s w)) = toE (b k))
    (i : SO.Idx) : finish I U i = meanOf a b := by
  unfold finish
  rw [broadcast_at]
  unfold meanOf
  refine congrArg₂ Ideal.div ?_ rfl
  unfold extractAt
  refine (Ideal.multiReduction_add_total _ _ redC (by intro b; match b with | ⟨0, _⟩ => rfl) _ _ _).trans ?_
  rw [sum_idx2]
  simp only [Fin.sum_univ_one]
  refine Finset.sum_congr rfl fun k _ => ?_
  rw [shapeCast_apply _ castC (ix2 0 k) (ix1 k) (by
    rw [Shape.rowMajor_val_one, Shape.rowMajor_val_two]; simp), divf_at, addf_at, addf_at, total_at, total_at, hI, hU]
  rfl

end Cert.Iou
-- ==== Proof.Blocks.lean ====
/- The parts of one group of one sample under a clear class at every pixel, and the sum of all parts: the number of
   pixels of the batch. -/
module

public import proofs.«01_k».proof.Proof.Sums
public import Idealize.ShloMosaic.Lib.IdealHost

@[expose] public section

set_option maxRecDepth 16384

noncomputable section

namespace Cert.Iou

open Idealize.ShloMosaic

/-- The pixel of sample `b` in row `i` of group `r`. -/
abbrev pix (b : Fin 8) (r : Fin 32) (i : Fin 16) (w : Fin 512) : SJ.Idx := ix3 (n0 := 8) (n1 := 512) (n2 := 512) b (row r i) w

/-! ## One group -/

/-- The largest of a list whose entries are at most a bound one of them reaches. -/
theorem foldl_max_eq {M : EReal} {f : Fin 21 → EReal} (hf : ∀ c, f c ≤ M) (l : List (Fin 21)) :
    ∀ v : EReal, v ≤ M → (v = M ∨ ∃ c ∈ l, f c = M) → l.foldl (fun v c => max v (f c)) v = M := by
  induction l with
  | nil => intro v _ h; rcases h with h | ⟨c, hc, _⟩; · exact h
           · exact absurd hc List.not_mem_nil
  | cons a l ih =>
    intro v hv h
    rw [List.foldl_cons]
    refine ih _ (max_le hv (hf a)) ?_
    rcases h with h | ⟨c, hc, e⟩
    · left; rw [h]; exact max_eq_left (hf a)
    · rcases List.mem_cons.mp hc with rfl | hc
      · left; rw [e]; exact max_eq_right hv
      · right; exact ⟨c, hc, e⟩

theorem maxOver_at (P : FVec Ideal SP .f32) (r : Fin 32) (l : List (Fin 21)) (p : SG.Idx) :
    ∀ m : FVec Ideal SG .f32, maxOver P r l m p = l.foldl (fun v c => max v (scores P r c p)) (m p) := by
  induction l with
  | nil => intro m; rfl
  | cons c l ih =>
    intro m
    have : maxOver P r (c :: l) m = maxOver P r l (maximumf m (scores P r c)) := rfl
    rw [this, ih, List.foldl_cons, maximumf_at]

section
variable {x : FVec Ideal SX .f32} {t : IVec SJ 32} {cl : SJ.Idx → Fin 21} (h : ∀ j, Clear x t j (cl j)) {b : Fin 8}
  {P : FVec Ideal SP .f32} {T : IVec ST 32}
  (hP : ∀ k y w, P (ix4 (n0 := 1) 0 k y w) = x (ix4 (n0 := 8) (n1 := 21) (n2 := 512) (n3 := 512) b k y w))
  (hT : ∀ y w, T (ix3 (n0 := 1) 0 y w) = t (ix3 (n0 := 8) (n1 := 512) (n2 := 512) b y w))

include hP in
theorem scores_pix (r : Fin 32) (c : Fin 21) (i : Fin 16) (w : Fin 512) : scores P r c (ix2 i w) = x (over (pix b r i w) c) := by
  rw [scores_at, hP]
  rfl

include hT in
theorem labels_pix (r : Fin 32) (i : Fin 16) (w : Fin 512) : labels T r (ix2 i w) = t (pix b r i w) := by
  rw [labels_at, hT]

include h hP in
theorem best_pix (r : Fin 32) (i : Fin 16) (w : Fin 512) :
    best P r (ix2 i w) = x (over (pix b r i w) (cl (pix b r i w))) := by
  unfold best
  rw [maxOver_at]
  refine foldl_max_eq (fun c => ?_) _ _ ?_ ?_
  · rw [scores_pix hP]; exact (h _).le c
  · rw [scores_pix hP]; exact (h _).le 0
  · rcases Fin.eq_zero_or_eq_succ (cl (pix b r i w)) with e | ⟨k, e⟩
    · left; rw [scores_pix hP, e]
    · right
      exact ⟨cl (pix b r i w), by rw [e]; exact List.mem_map.mpr ⟨k, List.mem_finRange k, rfl⟩, scores_pix hP _ _ _ _⟩

include h hP in
/-- A class has the largest score exactly where it is the clear one. -/
theorem largest_pix (r : Fin 32) (c : Fin 21) (i : Fin 16) (w : Fin 512) :
    cmpf .oeq (scores P r c) (best P r) (ix2 i w) = if cl (pix b r i w) = c then 1#1 else 0#1 := by
  rw [fcmp_at, scores_pix hP, best_pix h hP]
  unfold Ideal.cmp
  by_cases e : cl (pix b r i w) = c
  · rw [if_pos e, e]; simp
  · rw [if_neg e]
    have := ((h (pix b r i w)).lt c (fun e' => e e'.symm)).ne
    simp [this]

include hT in
theorem isLabel_pix (r : Fin 32) (c : Fin 21) (i : Fin 16) (w : Fin 512) :
    isLabel (F := Ideal) (labels T r) c (ix2 i w) = if (t (pix b r i w)).toInt = (c.val : Int) then 1 else 0 := by
  unfold isLabel
  rw [select_at, cmpi_at, labels_pix hT, broadcast_at, broadcast_at, broadcast_at]
  have one : Ideal.ofBits .f32 0x3F800000#32 = 1 := Ideal.ofBits_one_f32
  have zero : Ideal.ofBits .f32 0x00000000#32 = 0 := Ideal.ofBits_zero_f32
  refine (congrArg₂ (Scalar.select _) one zero).trans ?_
  have : IntOp.cmpi .eq (t (pix b r i w)) (BitVec.ofNat 32 c.val) = if (t (pix b r i w)).toInt = (c.val : Int) then 1#1 else 0#1 := by
    show BitVec.ofBool (t (pix b r i w) == BitVec.ofNat 32 c.val) = _
    by_cases e : (t (pix b r i w)).toInt = (c.val : Int)
    · have : t (pix b r i w) = BitVec.ofNat 32 c.val := BitVec.eq_of_toInt_eq (by rw [e, toInt_class])
      rw [if_pos e, this]; simp
    · have : t (pix b r i w) ≠ BitVec.ofNat 32 c.val := fun e' => e (by rw [e', toInt_class])
      rw [if_neg e, beq_false_of_ne this]
      rfl
  rw [this]
  unfold Scalar.select
  split <;> rfl

include h hP hT in
theorem inter_part (r : Fin 32) (c : Fin 21) :
    Part (interAt (labels T r) (best P r) (scores P r c) c)
      fun i w => if cl (pix b r i w) = c ∧ (t (pix b r i w)).toInt = (c.val : Int) then 1 else 0 := by
  intro i w
  unfold interAt
  rw [select_at, largest_pix h hP, isLabel_pix hT, broadcast_at]
  have zero : Ideal.ofBits .f32 0x00000000#32 = 0 := Ideal.ofBits_zero_f32
  refine (congrArg (Scalar.select _ _) zero).trans ?_
  rw [toE_apply]
  unfold Scalar.select
  by_cases h1 : cl (pix b r i w) = c <;> by_cases h2 : (t (pix b r i w)).toInt = (c.val : Int) <;> simp [h1, h2]

include h hP hT in
theorem union_part (r : Fin 32) (c : Fin 21) :
    Part (unionAt (labels T r) (best P r) (scores P r c) c)
      fun i w => if cl (pix b r i w) = c ∨ (t (pix b r i w)).toInt = (c.val : Int) then 1 else 0 := by
  intro i w
  unfold unionAt
  rw [select_at, largest_pix h hP, isLabel_pix hT, broadcast_at]
  have one : Ideal.ofBits .f32 0x3F800000#32 = 1 := Ideal.ofBits_one_f32
  refine (congrArg (fun v => Scalar.select _ v _) one).trans ?_
  rw [toE_apply]
  unfold Scalar.select
  by_cases h1 : cl (pix b r i w) = c <;> by_cases h2 : (t (pix b r i w)).toInt = (c.val : Int) <;> simp [h1, h2]

end

/-! ## The whole batch -/

/-- A sum over 512 rows, by groups of 16 and in each the lower and the upper eight. -/
theorem sum_rows (f : Fin 512 → ℕ) : ∑ y, f y = ∑ r : Fin 32, ∑ s : Fin 8, (f (row r (lo s)) + f (row r (hi s))) := by
  have e : ∑ y, f y = ∑ r : Fin 32, ∑ i : Fin 16, f (row r i) := by
    rw [← Fintype.sum_prod_type' (f := fun r i => f (row r i))]
    refine (Fintype.sum_equiv (finProdFinEquiv (m := 32) (n := 16)) _ _ fun p => ?_).symm
    refine congrArg f (Fin.ext ?_)
    show 16 * p.1.val + p.2.val = p.2.val + 16 * p.1.val
    omega
  rw [e]
  refine Finset.sum_congr rfl fun r _ => ?_
  rw [Finset.sum_add_distrib]
  exact Fin.sum_univ_add (a := 8) (b := 8) (fun i => f (row r i))

theorem sum_pixels (Q : SJ.Idx → Prop) [DecidablePred Q] :
    (∑ s : Fin 8, ∑ w : Fin 512, ∑ b : Fin 8, ∑ r : Fin 32,
      ((if Q (pix b r (lo s) w) then 1 else 0) + (if Q (pix b r (hi s) w) then 1 else 0))) = pixels Q := by
  unfold pixels
  rw [Finset.card_filter, sum_idx3]
  calc _ = ∑ s : Fin 8, ∑ b : Fin 8, ∑ w : Fin 512, ∑ r : Fin 32,
        ((if Q (pix b r (lo s) w) then 1 else 0) + (if Q (pix b r (hi s) w) then 1 else 0)) :=
        Finset.sum_congr rfl fun s _ => Finset.sum_comm
    _ = ∑ b : Fin 8, ∑ s : Fin 8, ∑ w : Fin 512, ∑ r : Fin 32,
        ((if Q (pix b r (lo s) w) then 1 else 0) + (if Q (pix b r (hi s) w) then 1 else 0)) := Finset.sum_comm
    _ = ∑ b : Fin 8, ∑ w : Fin 512, ∑ r : Fin 32, ∑ s : Fin 8,
        ((if Q (pix b r (lo s) w) then 1 else 0) + (if Q (pix b r (hi s) w) then 1 else 0)) := by
        refine Finset.sum_congr rfl fun b _ => ?_
        rw [Finset.sum_comm]
        exact Finset.sum_congr rfl fun w _ => Finset.sum_comm
    _ = ∑ b : Fin 8, ∑ w : Fin 512, ∑ y : Fin 512, (if Q (ix3 (n0 := 8) (n1 := 512) (n2 := 512) b y w) then 1 else 0) :=
        Finset.sum_congr rfl fun b _ => Finset.sum_congr rfl fun w _ =>
          (sum_rows fun y => if Q (ix3 (n0 := 8) (n1 := 512) (n2 := 512) b y w) then 1 else 0).symm
    _ = _ := Finset.sum_congr rfl fun b _ => Finset.sum_comm

end Cert.Iou
-- ==== Proof.Value.lean ====
/- What the kernel's result buffer holds, where every pixel has a clear class: the mean over the classes of the two pixel
   counts' ratio, the reference's result. -/
module

public import proofs.«01_k».proof.Proof.RunKI
public import proofs.«01_k».proof.Proof.Blocks

@[expose] public section

set_option maxRecDepth 16384

noncomputable section

namespace Cert.KernelIdeal

open Idealize.ShloMosaic Idealize.ShloMosaic.TcCoe
open Cert.Iou (SX SJ Clear Holds pix lo hi meanOf both either toE)

variable (m : (ℓ : Loc nD τ sig) → Buf (Elt Ideal) ℓ)

/-- The scores the call is given, -/
abbrev scoresOf (c : Dev nD) : FVec Ideal SX .f32 := m ((c.tc : Thread nD τ).loc main_arg0)
/-- and the labels. -/
abbrev labelsOf (c : Dev nD) : IVec SJ 32 := m ((c.tc : Thread nD τ).loc main_arg1)

/-- The point of sample `b`. -/
abbrev point (b : Fin 8) : Fin cfg0.N := ⟨b.val, lt_of_lt_of_eq b.isLt N_eq.symm⟩

/-- A point's scores start at its sample, -/
theorem start0 : ∀ i : grid0.Coords, cc0_transform_0 i = ![(i 0).val, 0, 0, 0] := by decide +kernel
/-- and so do its labels. -/
theorem start1 : ∀ i : grid0.Coords, cc0_transform_1 i = ![(i 0).val, 0, 0] := by decide +kernel

theorem pred_at (c : Dev nD) (b : Fin 8) (k : Fin 21) (y w : Fin 512) :
    predBlk m c (point b) (ix4 (n0 := 1) 0 k y w) = scoresOf m c (ix4 (n0 := 8) (n1 := 21) (n2 := 512) (n3 := 512) b k y w) := by
  have e : ((cfg0.win 0).blk (point b)).view.emb (ix4 (n0 := 1) (n1 := 21) (n2 := 512) (n3 := 512) 0 k y w)
      = ix4 (n0 := 8) (n1 := 21) (n2 := 512) (n3 := 512) b k y w := by
    funext a
    apply Fin.ext
    refine (Pipeline.Window.rect_emb_val win0_0 (point b) _ a).trans ?_
    have := coord_eq (point b)
    fin_cases a <;> simp [Pipeline.Window.index, win0_0, start0]
    exact this
  exact congrArg (scoresOf m c) e

theorem tgt_at (c : Dev nD) (b : Fin 8) (y w : Fin 512) :
    tgtBlk m c (point b) (ix3 (n0 := 1) 0 y w) = labelsOf m c (ix3 (n0 := 8) (n1 := 512) (n2 := 512) b y w) := by
  have e : ((cfg0.win 1).blk (point b)).view.emb (ix3 (n0 := 1) (n1 := 512) (n2 := 512) 0 y w)
      = ix3 (n0 := 8) (n1 := 512) (n2 := 512) b y w := by
    funext a
    apply Fin.ext
    refine (Pipeline.Window.rect_emb_val win0_1 (point b) _ a).trans ?_
    have := coord_eq (point b)
    fin_cases a <;> simp [Pipeline.Window.index, win0_1, start1]
    exact this
  exact congrArg (labelsOf m c) e

section
variable {m} {c : Dev nD} {cl : SJ.Idx → Fin 21} (h : ∀ j, Clear (scoresOf m c) (labelsOf m c) j (cl j))

/-- The number of pixels with a property in one sample that are added into one entry of an accumulator. -/
def share (Q : SJ.Idx → Prop) [DecidablePred Q] (b : Fin 8) (s : Fin 8) (w : Fin 512) : ℕ :=
  ∑ r : Fin 32, ((if Q (pix b r (lo s) w) then 1 else 0) + (if Q (pix b r (hi s) w) then 1 else 0))

/-- The same of the first `n` samples. -/
def shares (Q : SJ.Idx → Prop) [DecidablePred Q] (n : ℕ) (s : Fin 8) (w : Fin 512) : ℕ :=
  ∑ b ∈ Finset.range n, if hb : b < 8 then share Q ⟨b, hb⟩ s w else 0

theorem shares_all (Q : SJ.Idx → Prop) [DecidablePred Q] : (∑ s : Fin 8, ∑ w : Fin 512, shares Q 8 s w) = Iou.pixels Q := by
  rw [← Iou.sum_pixels Q]
  refine Finset.sum_congr rfl fun s _ => Finset.sum_congr rfl fun w _ => ?_
  unfold shares
  rw [Finset.sum_range]
  refine Finset.sum_congr rfl fun b _ => ?_
  rw [dif_pos b.isLt]
  rfl

include h in
theorem acc_counts : ∀ (n : ℕ) (hn : n ≤ cfg0.N),
    Holds (accAt m c n hn).1 (fun k s w => shares (fun j => cl j = k ∧ (labelsOf m c j).toInt = (k.val : Int)) n s w)
    ∧ Holds (accAt m c n hn).2 (fun k s w => shares (fun j => cl j = k ∨ (labelsOf m c j).toInt = (k.val : Int)) n s w)
  | 0, _ => ⟨Iou.holds_zeros, Iou.holds_zeros⟩
  | n + 1, hn => by
    have h8 : n < 8 := lt_of_lt_of_eq hn N_eq
    obtain ⟨h1, h2⟩ := acc_counts n (Nat.le_of_lt hn)
    have hP := pred_at m c ⟨n, h8⟩
    have hT := tgt_at m c ⟨n, h8⟩
    have e : accAt m c (n + 1) hn = Iou.sampleStep (predBlk m c (point ⟨n, h8⟩)) (tgtBlk m c (point ⟨n, h8⟩)) (accAt m c n (Nat.le_of_lt hn)) := rfl
    rw [e]
    generalize predBlk m c (point ⟨n, h8⟩) = P at hP ⊢
    generalize tgtBlk m c (point ⟨n, h8⟩) = T at hT ⊢
    generalize accAt m c n (Nat.le_of_lt hn) = A at h1 h2 ⊢
    have := Iou.holds_sample P T _ _ (fun r k => Iou.inter_part h hP hT r k) (fun r k => Iou.union_part h hP hT r k) A _ _ h1 h2
    refine ⟨fun k s w => (this.1 k s w).trans (congrArg toE ?_), fun k s w => (this.2 k s w).trans (congrArg toE ?_)⟩
    all_goals
      beta_reduce
      unfold shares
      rw [Finset.sum_range_succ, dif_pos h8]
      rfl

theorem sum_toE (f : Fin 8 → Fin 512 → ℕ) : (∑ s, ∑ w, toE (f s w)) = toE (∑ s, ∑ w, f s w) := by
  rw [map_sum]
  exact Finset.sum_congr rfl fun s _ => (map_sum toE _ _).symm

include h in
theorem out_at (i : Iou.SO.Idx) : outAt m c final i = meanOf (both (labelsOf m c) cl) (either (labelsOf m c) cl) := by
  obtain ⟨h1, h2⟩ := acc_counts h 8 (le_of_eq N_eq.symm)
  have e : outAt m c final = Iou.finish (accAt m c 8 (le_of_eq N_eq.symm)).1 (accAt m c 8 (le_of_eq N_eq.symm)).2 := rfl
  rw [e]
  generalize accAt m c 8 (le_of_eq N_eq.symm) = A at h1 h2 ⊢
  refine Iou.finish_at _ _ _ _ (fun k => ?_) (fun k => ?_) i
  · rw [Finset.sum_congr rfl fun s _ => Finset.sum_congr rfl fun w _ => h1 k s w, sum_toE]
    exact congrArg toE (shares_all _)
  · rw [Finset.sum_congr rfl fun s _ => Finset.sum_congr rfl fun w _ => h2 k s w, sum_toE]
    exact congrArg toE (shares_all _)

include h in
theorem scalar_at (i : S_.Idx) : scalar (outAt m c final) i = meanOf (both (labelsOf m c) cl) (either (labelsOf m c) cl) := by
  have := out_at h
  generalize outAt m c final = o at this ⊢
  exact this _

end

end Cert.KernelIdeal

namespace Cert.Iou

open Idealize.ShloMosaic

/-- Kernel and reference agree where the precondition holds. -/
theorem values_eq [Cert.Pre_no_tie.Facts] [Cert.ReferenceIdeal.Facts] (m : (ℓ : Loc Cert.KernelIdeal.nD Cert.KernelIdeal.τ Cert.KernelIdeal.sig) → Buf (Elt Ideal) ℓ)
    (c : Dev Cert.KernelIdeal.nD) (h : Cert.Pre_no_tie.fn (F := Ideal) (Cert.KernelIdeal.scoresOf m c) (Cert.KernelIdeal.labelsOf m c) = fun _ => 1#1) :
    Cert.ReferenceIdeal.result (F := Ideal) (Cert.KernelIdeal.scoresOf m c) (Cert.KernelIdeal.labelsOf m c)
      = Cert.KernelIdeal.scalar (Cert.KernelIdeal.outAt m c Cert.KernelIdeal.final) := by
  choose cl hcl using clear h
  funext i
  exact (result_eq cl hcl i).trans (Cert.KernelIdeal.scalar_at hcl i).symm

end Cert.Iou
-- ==== Proof.lean ====
/- The claims, each from the module that proves it. -/
module

public import proofs.«01_k».proof.Defs
public import proofs.«01_k».proof.Proof.Gen.Kernel
public import proofs.«01_k».proof.Proof.Gen.KernelIdeal
public import proofs.«01_k».proof.Proof.RunK
public import proofs.«01_k».proof.Proof.RunKI
public import proofs.«01_k».proof.Proof.RefRun
public import proofs.«01_k».proof.Proof.Value

@[expose] public section

noncomputable section

namespace Cert.Proof

open Idealize.ShloMosaic Idealize.SL.Sem

theorem claim : Cert.Claim :=
  haveI := Cert.ReferenceIdeal.facts
  haveI := Cert.Iou.facts_no_tie
  ⟨Cert.Kernel.Gen.facts, Cert.KernelIdeal.Gen.facts, Cert.ReferenceIdeal.facts, Cert.Iou.facts_no_tie,
    fun m g _ => θ_run_mono (Cert.Kernel.ends m g) fun _ h => ⟨fun c => (h.1 c).2, h.2⟩,
    fun m g _ => θ_run_mono (Cert.KernelIdeal.ends m g) fun _ h => ⟨fun c => (h.1 c).2, h.2⟩,
    fun m g _ => θ_run_mono (Cert.KernelIdeal.ends m g) fun _ h => ⟨fun c => (h.1 c).2, h.2⟩,
    fun m g _ => θ_run_mono (Cert.ReferenceIdeal.ends m g) fun _ h => ⟨fun c => (h.1 c).2, h.2⟩,
    fun m g _ => θ_run_mono (Cert.ReferenceIdeal.ends m g) fun _ h => ⟨fun c => (h.1 c).2, h.2⟩,
    trivial,
    fun m g m' g' hpre hargs => ⟨fun c => Cert.KernelIdeal.scalar (Cert.KernelIdeal.outAt m c Cert.KernelIdeal.final),
      θ_run_mono (Cert.KernelIdeal.ends m g) fun _ h => h.1,
      θ_run_mono (Cert.ReferenceIdeal.ends m' g') fun _ h c => ⟨(h.1 c).1.trans
        ((congrArg₂ Cert.ReferenceIdeal.result (hargs c).1 (hargs c).2).trans (Cert.Iou.values_eq m c (hpre c))), (h.1 c).2⟩⟩⟩

end Cert.Proof

end
